-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![4096, 4096]⟩ ⟨2, ![8192, 4096]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S8192x4096 : Shape := ⟨2, ![8192, 4096]⟩
abbrev S1x4096 : Shape := ⟨2, ![1, 4096]⟩
abbrev S4096x4096 : Shape := ⟨2, ![4096, 4096]⟩
abbrev S2x128x4096 : Shape := ⟨3, ![2, 128, 4096]⟩
abbrev S16x128x4096 : Shape := ⟨3, ![16, 128, 4096]⟩
abbrev S4x128x4096 : Shape := ⟨3, ![4, 128, 4096]⟩
abbrev S16 : Shape := ⟨1, ![16]⟩
abbrev S_ : Shape := ⟨0, ![]⟩
abbrev S1 : Shape := ⟨1, ![1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩

abbrev nBuf : Space → Nat
  | .hbm => 5
  | .vmem => 6
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S4096x4096, .bf16⟩
  | .local _ .vmem, ⟨0, _⟩ => ⟨S1x4096, .f32⟩
  | .local _ .vmem, ⟨1, _⟩ => ⟨S2x128x4096, .f32⟩
  | .local _ .vmem, ⟨2, _⟩ => ⟨S2x128x4096, .f32⟩
  | .local _ .vmem, ⟨3, _⟩ => ⟨S16x128x4096, .bf16⟩
  | .local _ .vmem, ⟨4, _⟩ => ⟨S16x128x4096, .bf16⟩
  | .local _ .vmem, ⟨5, _⟩ => ⟨S4x128x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  (ofTc nBuf bufTy 1 113 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_11 : BitVec 32 := 8#32
  let v22 : BitVec 32 := Scalar.muli v9 c8_i32_11
  let v23 : BitVec 32 := Scalar.addi c0_i32 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v24 : BitVec 32 := Scalar.muli v5 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_dev2 (d0 : Dev nD) : Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_15 : BitVec 32 := 8#32
  let v28 : BitVec 32 := Scalar.muli v2 c8_i32_15
  let v29 : BitVec 32 := Scalar.addi c0_i32_16 v28
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_17 : BitVec 32 := 4#32
  let v30 : BitVec 32 := Scalar.muli v10 c4_i32_17
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v32 : BitVec 32 := Scalar.muli v8 c1_i32_18
  let v33 : BitVec 32 := Scalar.addi v31 v32
  v33.toNat
def k0_off1 (d0 : Dev nD) (c0_i32_20 : BitVec 32) : Fin 2 → Nat :=
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c4096_i32_8 : BitVec 32 := 4096#32
  let v18 : BitVec 32 := Scalar.muli v17 c4096_i32_8
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_9 : BitVec 32 := 2048#32
  let v19 : BitVec 32 := Scalar.muli v5 c2048_i32_9
  let v20 : BitVec 32 := Scalar.addi v18 v19
  let v34 : BitVec 32 := Scalar.addi v20 c0_i32_20
  let c0_i32_25 : BitVec 32 := 0#32
  ![v34.toNat, 0]
def k0_off2 (d0 : Dev nD) (c0_i32_26 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v14 : BitVec 32 := Scalar.muli v2 c4096_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32_6 : BitVec 32 := 2048#32
  let v15 : BitVec 32 := Scalar.muli v5 c2048_i32_6
  let v16 : BitVec 32 := Scalar.addi v14 v15
  let v40 : BitVec 32 := Scalar.addi v16 c0_i32_26
  let c0_i32_31 : BitVec 32 := 0#32
  ![v40.toNat, 0]
def k0_dev3 (d0 : Dev nD) : Nat :=
  let c0_i32_64 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_63 : BitVec 32 := 8#32
  let v76 : BitVec 32 := Scalar.muli v9 c8_i32_63
  let v77 : BitVec 32 := Scalar.addi c0_i32_64 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v78 : BitVec 32 := Scalar.muli v5 c4_i32_65
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v80 : BitVec 32 := Scalar.muli v8 c1_i32_66
  let v81 : BitVec 32 := Scalar.addi v79 v80
  v81.toNat
def k0_dev4 (d0 : Dev nD) : Nat :=
  let c0_i32_91 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_90 : BitVec 32 := 8#32
  let v108 : BitVec 32 := Scalar.muli v9 c8_i32_90
  let v109 : BitVec 32 := Scalar.addi c0_i32_91 v108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v110 : BitVec 32 := Scalar.muli v5 c4_i32_92
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v112 : BitVec 32 := Scalar.muli v8 c1_i32_93
  let v113 : BitVec 32 := Scalar.addi v111 v112
  v113.toNat
def k0_dev5 (d0 : Dev nD) : Nat :=
  let c0_i32_119 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_118 : BitVec 32 := 8#32
  let v140 : BitVec 32 := Scalar.muli v9 c8_i32_118
  let v141 : BitVec 32 := Scalar.addi c0_i32_119 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_120 : BitVec 32 := 4#32
  let v142 : BitVec 32 := Scalar.muli v5 c4_i32_120
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v144 : BitVec 32 := Scalar.muli v8 c1_i32_121
  let v145 : BitVec 32 := Scalar.addi v143 v144
  v145.toNat
def k0_dev6 (d0 : Dev nD) : Nat :=
  let c0_i32_146 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_145 : BitVec 32 := 8#32
  let v172 : BitVec 32 := Scalar.muli v9 c8_i32_145
  let v173 : BitVec 32 := Scalar.addi c0_i32_146 v172
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v174 : BitVec 32 := Scalar.muli v5 c4_i32_147
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v176 : BitVec 32 := Scalar.muli v8 c1_i32_148
  let v177 : BitVec 32 := Scalar.addi v175 v176
  v177.toNat
def k0_off3 (d0 : Dev nD) (c0_i32_190 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v234 : BitVec 32 := Scalar.addi v11 c0_i32_190
  let c0_i32_193 : BitVec 32 := 0#32
  ![v234.toNat, 0]
def k0_dev7 (d0 : Dev nD) : Nat :=
  let c0_i32_201 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_200 : BitVec 32 := 8#32
  let v241 : BitVec 32 := Scalar.muli v2 c8_i32_200
  let v242 : BitVec 32 := Scalar.addi c0_i32_201 v241
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_202 : BitVec 32 := 4#32
  let v243 : BitVec 32 := Scalar.muli v10 c4_i32_202
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v245 : BitVec 32 := Scalar.muli v8 c1_i32_203
  let v246 : BitVec 32 := Scalar.addi v244 v245
  v246.toNat
def k0_dev8 (d0 : Dev nD) : Nat :=
  let c0_i32_227 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_226 : BitVec 32 := 8#32
  let v272 : BitVec 32 := Scalar.muli v9 c8_i32_226
  let v273 : BitVec 32 := Scalar.addi c0_i32_227 v272
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_228 : BitVec 32 := 4#32
  let v274 : BitVec 32 := Scalar.muli v5 c4_i32_228
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v276 : BitVec 32 := Scalar.muli v8 c1_i32_229
  let v277 : BitVec 32 := Scalar.addi v275 v276
  v277.toNat
def k0_dev9 (d0 : Dev nD) : Nat :=
  let c0_i32_283 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_282 : BitVec 32 := 8#32
  let v341 : BitVec 32 := Scalar.muli v2 c8_i32_282
  let v342 : BitVec 32 := Scalar.addi c0_i32_283 v341
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_284 : BitVec 32 := 4#32
  let v343 : BitVec 32 := Scalar.muli v10 c4_i32_284
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_285 : BitVec 32 := 1#32
  let v345 : BitVec 32 := Scalar.muli v8 c1_i32_285
  let v346 : BitVec 32 := Scalar.addi v344 v345
  v346.toNat
def k0_dev10 (d0 : Dev nD) : Nat :=
  let c0_i32_309 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_308 : BitVec 32 := 8#32
  let v372 : BitVec 32 := Scalar.muli v9 c8_i32_308
  let v373 : BitVec 32 := Scalar.addi c0_i32_309 v372
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_310 : BitVec 32 := 4#32
  let v374 : BitVec 32 := Scalar.muli v5 c4_i32_310
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v376 : BitVec 32 := Scalar.muli v8 c1_i32_311
  let v377 : BitVec 32 := Scalar.addi v375 v376
  v377.toNat
def k0_dev11 (d0 : Dev nD) : Nat :=
  let c0_i32_365 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_364 : BitVec 32 := 8#32
  let v441 : BitVec 32 := Scalar.muli v2 c8_i32_364
  let v442 : BitVec 32 := Scalar.addi c0_i32_365 v441
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_366 : BitVec 32 := 4#32
  let v443 : BitVec 32 := Scalar.muli v10 c4_i32_366
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v445 : BitVec 32 := Scalar.muli v8 c1_i32_367
  let v446 : BitVec 32 := Scalar.addi v444 v445
  v446.toNat
def k0_dev12 (d0 : Dev nD) : Nat :=
  let c0_i32_392 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_391 : BitVec 32 := 8#32
  let v472 : BitVec 32 := Scalar.muli v9 c8_i32_391
  let v473 : BitVec 32 := Scalar.addi c0_i32_392 v472
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_393 : BitVec 32 := 4#32
  let v474 : BitVec 32 := Scalar.muli v5 c4_i32_393
  let v475 : BitVec 32 := Scalar.addi v473 v474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v476 : BitVec 32 := Scalar.muli v8 c1_i32_394
  let v477 : BitVec 32 := Scalar.addi v475 v476
  v477.toNat
def k0_dev13 (d0 : Dev nD) : Nat :=
  let c0_i32_448 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_447 : BitVec 32 := 8#32
  let v541 : BitVec 32 := Scalar.muli v2 c8_i32_447
  let v542 : BitVec 32 := Scalar.addi c0_i32_448 v541
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_449 : BitVec 32 := 4#32
  let v543 : BitVec 32 := Scalar.muli v10 c4_i32_449
  let v544 : BitVec 32 := Scalar.addi v542 v543
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_450 : BitVec 32 := 1#32
  let v545 : BitVec 32 := Scalar.muli v8 c1_i32_450
  let v546 : BitVec 32 := Scalar.addi v544 v545
  v546.toNat
def k0_dev14 (d0 : Dev nD) : Nat :=
  let c0_i32_474 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_473 : BitVec 32 := 8#32
  let v572 : BitVec 32 := Scalar.muli v9 c8_i32_473
  let v573 : BitVec 32 := Scalar.addi c0_i32_474 v572
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_475 : BitVec 32 := 4#32
  let v574 : BitVec 32 := Scalar.muli v5 c4_i32_475
  let v575 : BitVec 32 := Scalar.addi v573 v574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v576 : BitVec 32 := Scalar.muli v8 c1_i32_476
  let v577 : BitVec 32 := Scalar.addi v575 v576
  v577.toNat
def k0_dev15 (d0 : Dev nD) : Nat :=
  let c0_i32_542 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_541 : BitVec 32 := 8#32
  let v651 : BitVec 32 := Scalar.muli v2 c8_i32_541
  let v652 : BitVec 32 := Scalar.addi c0_i32_542 v651
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_543 : BitVec 32 := 4#32
  let v653 : BitVec 32 := Scalar.muli v10 c4_i32_543
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v655 : BitVec 32 := Scalar.muli v8 c1_i32_544
  let v656 : BitVec 32 := Scalar.addi v654 v655
  v656.toNat
def k0_dev16 (d0 : Dev nD) : Nat :=
  let c0_i32_568 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_567 : BitVec 32 := 8#32
  let v682 : BitVec 32 := Scalar.muli v9 c8_i32_567
  let v683 : BitVec 32 := Scalar.addi c0_i32_568 v682
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_569 : BitVec 32 := 4#32
  let v684 : BitVec 32 := Scalar.muli v5 c4_i32_569
  let v685 : BitVec 32 := Scalar.addi v683 v684
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_570 : BitVec 32 := 1#32
  let v686 : BitVec 32 := Scalar.muli v8 c1_i32_570
  let v687 : BitVec 32 := Scalar.addi v685 v686
  v687.toNat
def k0_dev17 (d0 : Dev nD) : Nat :=
  let c0_i32_636 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_635 : BitVec 32 := 8#32
  let v761 : BitVec 32 := Scalar.muli v2 c8_i32_635
  let v762 : BitVec 32 := Scalar.addi c0_i32_636 v761
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_637 : BitVec 32 := 4#32
  let v763 : BitVec 32 := Scalar.muli v10 c4_i32_637
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_638 : BitVec 32 := 1#32
  let v765 : BitVec 32 := Scalar.muli v8 c1_i32_638
  let v766 : BitVec 32 := Scalar.addi v764 v765
  v766.toNat
def k0_dev18 (d0 : Dev nD) : Nat :=
  let c0_i32_662 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_661 : BitVec 32 := 8#32
  let v792 : BitVec 32 := Scalar.muli v9 c8_i32_661
  let v793 : BitVec 32 := Scalar.addi c0_i32_662 v792
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_663 : BitVec 32 := 4#32
  let v794 : BitVec 32 := Scalar.muli v5 c4_i32_663
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_664 : BitVec 32 := 1#32
  let v796 : BitVec 32 := Scalar.muli v8 c1_i32_664
  let v797 : BitVec 32 := Scalar.addi v795 v796
  v797.toNat
def k0_dev19 (d0 : Dev nD) : Nat :=
  let c0_i32_730 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_729 : BitVec 32 := 8#32
  let v871 : BitVec 32 := Scalar.muli v2 c8_i32_729
  let v872 : BitVec 32 := Scalar.addi c0_i32_730 v871
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_731 : BitVec 32 := 4#32
  let v873 : BitVec 32 := Scalar.muli v10 c4_i32_731
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v875 : BitVec 32 := Scalar.muli v8 c1_i32_732
  let v876 : BitVec 32 := Scalar.addi v874 v875
  v876.toNat
def k0_dev20 (d0 : Dev nD) : Nat :=
  let c0_i32_756 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_755 : BitVec 32 := 8#32
  let v902 : BitVec 32 := Scalar.muli v9 c8_i32_755
  let v903 : BitVec 32 := Scalar.addi c0_i32_756 v902
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_757 : BitVec 32 := 4#32
  let v904 : BitVec 32 := Scalar.muli v5 c4_i32_757
  let v905 : BitVec 32 := Scalar.addi v903 v904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v906 : BitVec 32 := Scalar.muli v8 c1_i32_758
  let v907 : BitVec 32 := Scalar.addi v905 v906
  v907.toNat
def k0_dev21 (d0 : Dev nD) : Nat :=
  let c0_i32_824 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_823 : BitVec 32 := 8#32
  let v981 : BitVec 32 := Scalar.muli v2 c8_i32_823
  let v982 : BitVec 32 := Scalar.addi c0_i32_824 v981
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_825 : BitVec 32 := 4#32
  let v983 : BitVec 32 := Scalar.muli v10 c4_i32_825
  let v984 : BitVec 32 := Scalar.addi v982 v983
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_826 : BitVec 32 := 1#32
  let v985 : BitVec 32 := Scalar.muli v8 c1_i32_826
  let v986 : BitVec 32 := Scalar.addi v984 v985
  v986.toNat
def k0_dev22 (d0 : Dev nD) : Nat :=
  let c0_i32_850 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_849 : BitVec 32 := 8#32
  let v1012 : BitVec 32 := Scalar.muli v9 c8_i32_849
  let v1013 : BitVec 32 := Scalar.addi c0_i32_850 v1012
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_851 : BitVec 32 := 4#32
  let v1014 : BitVec 32 := Scalar.muli v5 c4_i32_851
  let v1015 : BitVec 32 := Scalar.addi v1013 v1014
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v1016 : BitVec 32 := Scalar.muli v8 c1_i32_852
  let v1017 : BitVec 32 := Scalar.addi v1015 v1016
  v1017.toNat
def k0_dev23 (d0 : Dev nD) : Nat :=
  let c0_i32_918 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_917 : BitVec 32 := 8#32
  let v1091 : BitVec 32 := Scalar.muli v2 c8_i32_917
  let v1092 : BitVec 32 := Scalar.addi c0_i32_918 v1091
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_919 : BitVec 32 := 4#32
  let v1093 : BitVec 32 := Scalar.muli v10 c4_i32_919
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_920 : BitVec 32 := 1#32
  let v1095 : BitVec 32 := Scalar.muli v8 c1_i32_920
  let v1096 : BitVec 32 := Scalar.addi v1094 v1095
  v1096.toNat
def k0_dev24 (d0 : Dev nD) : Nat :=
  let c0_i32_944 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_943 : BitVec 32 := 8#32
  let v1122 : BitVec 32 := Scalar.muli v9 c8_i32_943
  let v1123 : BitVec 32 := Scalar.addi c0_i32_944 v1122
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_945 : BitVec 32 := 4#32
  let v1124 : BitVec 32 := Scalar.muli v5 c4_i32_945
  let v1125 : BitVec 32 := Scalar.addi v1123 v1124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_946 : BitVec 32 := 1#32
  let v1126 : BitVec 32 := Scalar.muli v8 c1_i32_946
  let v1127 : BitVec 32 := Scalar.addi v1125 v1126
  v1127.toNat
def k0_dev25 (d0 : Dev nD) : Nat :=
  let c0_i32_1012 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1011 : BitVec 32 := 8#32
  let v1201 : BitVec 32 := Scalar.muli v2 c8_i32_1011
  let v1202 : BitVec 32 := Scalar.addi c0_i32_1012 v1201
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1013 : BitVec 32 := 4#32
  let v1203 : BitVec 32 := Scalar.muli v10 c4_i32_1013
  let v1204 : BitVec 32 := Scalar.addi v1202 v1203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1014 : BitVec 32 := 1#32
  let v1205 : BitVec 32 := Scalar.muli v8 c1_i32_1014
  let v1206 : BitVec 32 := Scalar.addi v1204 v1205
  v1206.toNat
def k0_dev26 (d0 : Dev nD) : Nat :=
  let c0_i32_1038 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1037 : BitVec 32 := 8#32
  let v1232 : BitVec 32 := Scalar.muli v9 c8_i32_1037
  let v1233 : BitVec 32 := Scalar.addi c0_i32_1038 v1232
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1039 : BitVec 32 := 4#32
  let v1234 : BitVec 32 := Scalar.muli v5 c4_i32_1039
  let v1235 : BitVec 32 := Scalar.addi v1233 v1234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1236 : BitVec 32 := Scalar.muli v8 c1_i32_1040
  let v1237 : BitVec 32 := Scalar.addi v1235 v1236
  v1237.toNat
def k0_dev27 (d0 : Dev nD) : Nat :=
  let c0_i32_1106 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1105 : BitVec 32 := 8#32
  let v1311 : BitVec 32 := Scalar.muli v2 c8_i32_1105
  let v1312 : BitVec 32 := Scalar.addi c0_i32_1106 v1311
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1107 : BitVec 32 := 4#32
  let v1313 : BitVec 32 := Scalar.muli v10 c4_i32_1107
  let v1314 : BitVec 32 := Scalar.addi v1312 v1313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1108 : BitVec 32 := 1#32
  let v1315 : BitVec 32 := Scalar.muli v8 c1_i32_1108
  let v1316 : BitVec 32 := Scalar.addi v1314 v1315
  v1316.toNat
def k0_dev28 (d0 : Dev nD) : Nat :=
  let c0_i32_1128 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1127 : BitVec 32 := 8#32
  let v1336 : BitVec 32 := Scalar.muli v9 c8_i32_1127
  let v1337 : BitVec 32 := Scalar.addi c0_i32_1128 v1336
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1129 : BitVec 32 := 4#32
  let v1338 : BitVec 32 := Scalar.muli v5 c4_i32_1129
  let v1339 : BitVec 32 := Scalar.addi v1337 v1338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1130 : BitVec 32 := 1#32
  let v1340 : BitVec 32 := Scalar.muli v8 c1_i32_1130
  let v1341 : BitVec 32 := Scalar.addi v1339 v1340
  v1341.toNat
def k0_dev29 (d0 : Dev nD) : Nat :=
  let c0_i32_1196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1195 : BitVec 32 := 8#32
  let v1415 : BitVec 32 := Scalar.muli v2 c8_i32_1195
  let v1416 : BitVec 32 := Scalar.addi c0_i32_1196 v1415
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1197 : BitVec 32 := 4#32
  let v1417 : BitVec 32 := Scalar.muli v10 c4_i32_1197
  let v1418 : BitVec 32 := Scalar.addi v1416 v1417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1198 : BitVec 32 := 1#32
  let v1419 : BitVec 32 := Scalar.muli v8 c1_i32_1198
  let v1420 : BitVec 32 := Scalar.addi v1418 v1419
  v1420.toNat
def k0_dev30 (d0 : Dev nD) : Nat :=
  let c0_i32_1218 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1217 : BitVec 32 := 8#32
  let v1440 : BitVec 32 := Scalar.muli v9 c8_i32_1217
  let v1441 : BitVec 32 := Scalar.addi c0_i32_1218 v1440
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1219 : BitVec 32 := 4#32
  let v1442 : BitVec 32 := Scalar.muli v5 c4_i32_1219
  let v1443 : BitVec 32 := Scalar.addi v1441 v1442
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1444 : BitVec 32 := Scalar.muli v8 c1_i32_1220
  let v1445 : BitVec 32 := Scalar.addi v1443 v1444
  v1445.toNat
def k0_dev31 (d0 : Dev nD) : Nat :=
  let c0_i32_1286 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1285 : BitVec 32 := 8#32
  let v1519 : BitVec 32 := Scalar.muli v2 c8_i32_1285
  let v1520 : BitVec 32 := Scalar.addi c0_i32_1286 v1519
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1287 : BitVec 32 := 4#32
  let v1521 : BitVec 32 := Scalar.muli v10 c4_i32_1287
  let v1522 : BitVec 32 := Scalar.addi v1520 v1521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1288 : BitVec 32 := 1#32
  let v1523 : BitVec 32 := Scalar.muli v8 c1_i32_1288
  let v1524 : BitVec 32 := Scalar.addi v1522 v1523
  v1524.toNat
def k0_dev32 (d0 : Dev nD) : Nat :=
  let c0_i32_1353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1352 : BitVec 32 := 8#32
  let v1597 : BitVec 32 := Scalar.muli v2 c8_i32_1352
  let v1598 : BitVec 32 := Scalar.addi c0_i32_1353 v1597
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1354 : BitVec 32 := 4#32
  let v1599 : BitVec 32 := Scalar.muli v10 c4_i32_1354
  let v1600 : BitVec 32 := Scalar.addi v1598 v1599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1355 : BitVec 32 := 1#32
  let v1601 : BitVec 32 := Scalar.muli v8 c1_i32_1355
  let v1602 : BitVec 32 := Scalar.addi v1600 v1601
  v1602.toNat
def k0_dev33 (d0 : Dev nD) : Nat :=
  let c0_i32_1414 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1413 : BitVec 32 := 8#32
  let v1669 : BitVec 32 := Scalar.muli v2 c8_i32_1413
  let v1670 : BitVec 32 := Scalar.addi c0_i32_1414 v1669
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1415 : BitVec 32 := 4#32
  let v1671 : BitVec 32 := Scalar.muli v10 c4_i32_1415
  let v1672 : BitVec 32 := Scalar.addi v1670 v1671
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1416 : BitVec 32 := 1#32
  let v1673 : BitVec 32 := Scalar.muli v8 c1_i32_1416
  let v1674 : BitVec 32 := Scalar.addi v1672 v1673
  v1674.toNat
def k0_dev34 (d0 : Dev nD) : Nat :=
  let c0_i32_1475 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1474 : BitVec 32 := 8#32
  let v1741 : BitVec 32 := Scalar.muli v2 c8_i32_1474
  let v1742 : BitVec 32 := Scalar.addi c0_i32_1475 v1741
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1476 : BitVec 32 := 4#32
  let v1743 : BitVec 32 := Scalar.muli v10 c4_i32_1476
  let v1744 : BitVec 32 := Scalar.addi v1742 v1743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1477 : BitVec 32 := 1#32
  let v1745 : BitVec 32 := Scalar.muli v8 c1_i32_1477
  let v1746 : BitVec 32 := Scalar.addi v1744 v1745
  v1746.toNat
def k0_off4 (d0 : Dev nD) (c0_i32_1673 : BitVec 32) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c2048_i32_5 : BitVec 32 := 2048#32
  let v13 : BitVec 32 := Scalar.muli v12 c2048_i32_5
  let v1890 : BitVec 32 := Scalar.addi v13 c0_i32_1673
  let c0_i32_1681 : BitVec 32 := 0#32
  ![v1890.toNat, 0]
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.IdealSteps.lean ====
/- The body of the kernel as a list of steps. Each step is one memory operation, or the few that fill one buffer, and is
   written once for every chunk `j` of the 16; the printed body is the list `steps` run after the barrier. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal
open Cert.KernelIdeal.Gen

open Idealize.ShloMosaic Idealize.ShloMosaic.TcCoe
open Idealize.SL Idealize.SL.Sem

variable {F : FTy → Type} [FloatOps F]

/-- A program of one core of the kernel. -/
abbrev Pm (F : FTy → Type) [FloatOps F] (α : Type) := Prog (TpuEff nD τ sig (Elt F) Λ₀ .tc) α

/-! ## The buffers -/

/-- This device's rows of `partial`, in the main memory. -/
abbrev pM : Memref sig .tc .hbm S8192x4096 .f32 := Memref.whole main_v1
/-- The weights. -/
abbrev gM : Memref sig .tc .vmem S1x4096 .f32 := Memref.whole cc0_stg0_0
/-- The result. -/
abbrev oM : Memref sig .tc .hbm S4096x4096 .bf16 := Memref.whole main_v3
/-- Two chunks of the rows this device keeps. -/
abbrev mineM : Memref sig .tc .vmem S2x128x4096 .f32 := Memref.whole cc0_scratch0
/-- Two chunks of the rows its partner along x keeps. -/
abbrev thM : Memref sig .tc .vmem S2x128x4096 .f32 := Memref.whole cc0_scratch1
/-- The chunks sent along x. -/
abbrev sxM : Memref sig .tc .vmem S16x128x4096 .bf16 := Memref.whole cc0_scratch2
/-- The chunks received along x. -/
abbrev rxM : Memref sig .tc .vmem S16x128x4096 .bf16 := Memref.whole cc0_scratch3
/-- Four chunks of results. -/
abbrev stM : Memref sig .tc .vmem S4x128x4096 .bf16 := Memref.whole cc0_scratch4

theorem whole_sx : sxM.IsWhole := Memref.isWhole_whole _
theorem whole_rx : rxM.IsWhole := Memref.isWhole_whole _
theorem whole_st : stM.IsWhole := Memref.isWhole_whole _
theorem whole_o : oM.IsWhole := Memref.isWhole_whole _

/-! ## Slots of the buffers -/

theorem inb2 : ∀ s : Fin 2, ∀ a, (![s.val, 0, 0] : Fin 3 → Nat) a + S1x128x4096.size a ≤ S2x128x4096.size a := by decide
theorem inb4 : ∀ s : Fin 4, ∀ a, (![s.val, 0, 0] : Fin 3 → Nat) a + S1x128x4096.size a ≤ S4x128x4096.size a := by decide
theorem inb16 : ∀ s : Fin 16, ∀ a, (![s.val, 0, 0] : Fin 3 → Nat) a + S1x128x4096.size a ≤ S16x128x4096.size a := by decide
theorem inbSem : ∀ s : Fin 16, ∀ a, (![s.val] : Fin 1 → Nat) a + S1.size a ≤ S16.size a := by decide

abbrev R2 (s : Fin 2) : Rect S2x128x4096 := Rect.unit (s := S2x128x4096) ![s.val, 0, 0] S1x128x4096.size (inb2 s)
abbrev R4 (s : Fin 4) : Rect S4x128x4096 := Rect.unit (s := S4x128x4096) ![s.val, 0, 0] S1x128x4096.size (inb4 s)
abbrev R16 (s : Fin 16) : Rect S16x128x4096 := Rect.unit (s := S16x128x4096) ![s.val, 0, 0] S1x128x4096.size (inb16 s)

theorem words4 : ∀ s : Fin 4, (R4 s).WholeWords (EltTy.packing .bf16) := by decide
theorem words16 : ∀ s : Fin 16, (R16 s).WholeWords (EltTy.packing .bf16) := by decide
theorem packed4 : ∀ s : Fin 4, (R4 s).PackedRows (EltTy.packing .bf16) := by decide
theorem packed16 : ∀ s : Fin 16, (R16 s).PackedRows (EltTy.packing .bf16) := by decide

/-- The slot of a buffer of two chunks that holds chunk `j`. -/
abbrev s2 (j : Fin 16) : Fin 2 := ⟨j.val % 2, Nat.mod_lt _ (by decide)⟩
/-- The slot of a buffer of four chunks that holds chunk `j`. -/
abbrev s4 (j : Fin 16) : Fin 4 := ⟨j.val % 4, Nat.mod_lt _ (by decide)⟩

abbrev mineS (s : Fin 2) : Memref sig .tc .vmem S128x4096 .f32 := (mineM.slice (R2 s) (fun _ => rfl)).squeeze S128x4096 squeezes_S1x128x4096_S128x4096
abbrev thS (s : Fin 2) : Memref sig .tc .vmem S128x4096 .f32 := (thM.slice (R2 s) (fun _ => rfl)).squeeze S128x4096 squeezes_S1x128x4096_S128x4096
abbrev sxS (j : Fin 16) : Memref sig .tc .vmem S128x4096 .bf16 := (sxM.slice (R16 j) (fun _ => rfl)).squeeze S128x4096 squeezes_S1x128x4096_S128x4096
abbrev rxS (j : Fin 16) : Memref sig .tc .vmem S128x4096 .bf16 := (rxM.slice (R16 j) (fun _ => rfl)).squeeze S128x4096 squeezes_S1x128x4096_S128x4096
abbrev stS (s : Fin 4) : Memref sig .tc .vmem S128x4096 .bf16 := (stM.slice (R4 s) (fun _ => rfl)).squeeze S128x4096 squeezes_S1x128x4096_S128x4096

/-- The first row of chunk `j`, counted from the first row of the half. -/
abbrev rowW (j : Fin 16) : BitVec 32 := BitVec.ofNat 32 (128 * j.val)

/-- Chunk `j` of the rows that the partner along x keeps, and of those kept here. -/
abbrev pTh (d : Dev nD) (j : Fin 16) : Memref sig .tc .hbm S128x4096 .f32 := pM.slice (Rect.unit (s := S8192x4096) (k0_off1 d (rowW j)) S128x4096.size (k0_off1_inb d j)) (fun _ => rfl)
abbrev pMine (d : Dev nD) (j : Fin 16) : Memref sig .tc .hbm S128x4096 .f32 := pM.slice (Rect.unit (s := S8192x4096) (k0_off2 d (rowW j)) S128x4096.size (k0_off2_inb d j)) (fun _ => rfl)
/-- Chunk `j` of the half of the result computed here, and of the other half. -/
abbrev oOwn (d : Dev nD) (j : Fin 16) : Memref sig .tc .hbm S128x4096 .bf16 := oM.slice (Rect.unit (s := S4096x4096) (k0_off3 d (rowW j)) S128x4096.size (k0_off3_inb d j)) (fun _ => rfl)
abbrev oFwd (d : Dev nD) (j : Fin 16) : Memref sig .tc .hbm S128x4096 .bf16 := oM.slice (Rect.unit (s := S4096x4096) (k0_off4 d (rowW j)) S128x4096.size (k0_off4_inb d j)) (fun _ => rfl)

/-! ## The semaphores -/

/-- Semaphore `j` of an array of 16. -/
abbrev semOf (a : DmaSems sig S16) (j : Fin 16) : DmaSem sig := ((a.slice (Rect.unit (s := S16) ![j.val] S1.size (inbSem j))).squeeze S_ squeezes_S1_S_).sem
/-- The arrays: rows kept, rows of the partner, sent and received along x, results copied here, sent and received along y. -/
abbrev arr : Fin 7 → DmaSems sig S16 := fun
  | 0 => cc0_scratch5 | 1 => cc0_scratch6 | 2 => cc0_scratch7 | 3 => cc0_scratch8 | 4 => cc0_scratch9 | 5 => cc0_scratch10 | 6 => cc0_scratch11
abbrev dsem (k : Fin 7) (j : Fin 16) : DmaSem sig := semOf (arr k) j

/-- The semaphore of the barrier. -/
abbrev barS : Sem sig := (SemArray.scalar (sig.barrier 0 rfl) : Sems sig S_).sem

/-- The partner along x and the one along y. -/
abbrev xDev (d : Dev nD) : Dev nD := ⟨k0_dev1 d, k0_dev1_lt d⟩
abbrev yDev (d : Dev nD) : Dev nD := ⟨k0_dev2 d, k0_dev2_lt d⟩

/-! ## The values stored -/

/-- The chunk sent along x: the partner's rows, narrowed. -/
abbrev payX (v : Vec F S1x128x4096 .f32) : FVec F S1x128x4096 .bf16 := k0_pay1 v
/-- The chunk of results: the rows kept and those received, added, normalised and weighted. -/
abbrev payC (v : Vec F S1x128x4096 .f32) (w : Vec F S1x128x4096 .bf16) (g : Vec F S1x4096 .f32) : FVec F S1x128x4096 .bf16 := k0_pay5 v w g

/-! ## The steps -/

/-- One step of the body. -/
inductive Step where
  /-- Start the copy of chunk `j` of the partner's rows; wait for it. -/
  | thStart (j : Fin 16) | thWait (j : Fin 16)
  /-- Narrow chunk `j` of the partner's rows; send it along x; wait until it is sent. -/
  | sxFill (j : Fin 16) | sxSend (j : Fin 16) | sxWait (j : Fin 16)
  /-- Start the copy of chunk `j` of the rows kept; wait for it. -/
  | mineStart (j : Fin 16) | mineWait (j : Fin 16)
  /-- Wait for chunk `j` sent along x by the partner. -/
  | rxWait (j : Fin 16)
  /-- Compute chunk `j` of the results. -/
  | compute (j : Fin 16)
  /-- Start the copy of chunk `j` of the results; wait for it. -/
  | outStart (j : Fin 16) | outWait (j : Fin 16)
  /-- Send chunk `j` of the results along y; wait until it is sent; wait for the partner's. -/
  | ySend (j : Fin 16) | yWait (j : Fin 16) | fwdWait (j : Fin 16)

theorem wexact_sx (j : Fin 16) : (sxS j).view.WordExact := (whole_sx.wordExact_slice rfl _ (words16 j)).reshape _ _
theorem wexact_rx (j : Fin 16) : (rxS j).view.WordExact := (whole_rx.wordExact_slice rfl _ (words16 j)).reshape _ _
theorem wexact_st (s : Fin 4) : (stS s).view.WordExact := (whole_st.wordExact_slice rfl _ (words4 s)).reshape _ _
theorem wexact_own (d : Dev nD) (j : Fin 16) : (oOwn d j).view.WordExact := whole_o.wordExact_slice rfl _ (k0_off3_wordsbf16 d j)
theorem wexact_fwd (d : Dev nD) (j : Fin 16) : (oFwd d j).view.WordExact := whole_o.wordExact_slice rfl _ (k0_off4_wordsbf16 d j)

/-- The program of a step on device `d`. -/
def Step.prog (d : Dev nD) : Step → Pm F PUnit
  | .thStart j => Prog.lift (.enqueueDma (pTh d j) (.here (thS (s2 j))) (.dma (dsem 1 j)) (View.wordExact_bits rfl) ((View.wordExact_bits rfl).reshape _ _) ⟨Or.inl rfl, trivial⟩)
  | .thWait j => Prog.lift (.waitDma2 (dsem 1 j) (pTh d j) (thS (s2 j)) (View.wordExact_bits rfl) ((View.wordExact_bits rfl).reshape _ _))
  | .sxFill j => do
      let v : Vec F S1x128x4096 .f32 ← Prog.lift (.load thM (R2 (s2 j)).toLoadRect (View.loadsAt_vmem h_S1x128x4096))
      let w : Vec F S1x128x4096 .bf16 ← Prog.lift (.load sxM (R16 j).toLoadRect (View.loadsAt_vmem h_S1x128x4096))
      Prog.lift (.store sxM (R16 j) (payX v) Finset.univ (View.stores_vmem h_S1x128x4096 (whole_sx.storeExact_slice rfl _ (packed16 j)) (fun _ => rfl)) (.inl rfl))
  | .sxSend j => Prog.lift (.enqueueDma (sxS j) (.remote (Dev.tc (xDev d)) (rxS j) (.dma (dsem 2 j))) (.dma (dsem 3 j)) (wexact_sx j) (wexact_rx j) ⟨⟨rfl, Or.inl rfl⟩, trivial⟩)
  | .sxWait j => Prog.lift (.waitDma2 (dsem 2 j) (rxS j) (sxS j) (wexact_rx j) (wexact_sx j))
  | .mineStart j => Prog.lift (.enqueueDma (pMine d j) (.here (mineS (s2 j))) (.dma (dsem 0 j)) (View.wordExact_bits rfl) ((View.wordExact_bits rfl).reshape _ _) ⟨Or.inl rfl, trivial⟩)
  | .mineWait j => Prog.lift (.waitDma2 (dsem 0 j) (pMine d j) (mineS (s2 j)) (View.wordExact_bits rfl) ((View.wordExact_bits rfl).reshape _ _))
  | .rxWait j => Prog.lift (.waitDma2 (dsem 3 j) (sxS j) (rxS j) (wexact_sx j) (wexact_rx j))
  | .compute j => do
      let v : Vec F S1x128x4096 .f32 ← Prog.lift (.load mineM (R2 (s2 j)).toLoadRect (View.loadsAt_vmem h_S1x128x4096))
      let w : Vec F S1x128x4096 .bf16 ← Prog.lift (.load rxM (R16 j).toLoadRect (View.loadsAt_vmem h_S1x128x4096))
      let g : Vec F S1x4096 .f32 ← Prog.lift (.load gM (Rect.unit (s := S1x4096) ![0, 0] S1x4096.size inb_S1x4096_S1x4096_0_0).toLoadRect (View.loadsAt_vmem h_S1x4096))
      let u : Vec F S1x128x4096 .bf16 ← Prog.lift (.load stM (R4 (s4 j)).toLoadRect (View.loadsAt_vmem h_S1x128x4096))
      Prog.lift (.store stM (R4 (s4 j)) (payC v w g) Finset.univ (View.stores_vmem h_S1x128x4096 (whole_st.storeExact_slice rfl _ (packed4 (s4 j))) (fun _ => rfl)) (.inl rfl))
  | .outStart j => Prog.lift (.enqueueDma (stS (s4 j)) (.here (oOwn d j)) (.dma (dsem 4 j)) (wexact_st (s4 j)) (wexact_own d j) ⟨Or.inl rfl, trivial⟩)
  | .outWait j => Prog.lift (.waitDma2 (dsem 4 j) (stS (s4 j)) (oOwn d j) (wexact_st (s4 j)) (wexact_own d j))
  | .ySend j => Prog.lift (.enqueueDma (stS (s4 j)) (.remote (Dev.tc (yDev d)) (oOwn d j) (.dma (dsem 5 j))) (.dma (dsem 6 j)) (wexact_st (s4 j)) (wexact_own d j) ⟨⟨rfl, Or.inl rfl⟩, trivial⟩)
  | .yWait j => Prog.lift (.waitDma2 (dsem 5 j) (oOwn d j) (stS (s4 j)) (wexact_own d j) (wexact_st (s4 j)))
  | .fwdWait j => Prog.lift (.waitDma2 (dsem 6 j) (stS (s4 j)) (oFwd d j) (wexact_st (s4 j)) (wexact_fwd d j))

/-- The steps of a list, one after the other. -/
def runSteps (d : Dev nD) : List Step → Pm F PUnit
  | [] => pure ⟨⟩
  | s :: ss => (s.prog d).bind fun _ => runSteps d ss

/-- Chunk `j` on its way along x, and the next copy of the partner's rows started. -/
def sendSide (j : ℕ) : List Step :=
  if h : j < 16 then
    [.thWait ⟨j, h⟩, .sxFill ⟨j, h⟩] ++ (if h' : j + 2 < 16 then [.thStart ⟨j + 2, h'⟩] else []) ++ [.sxSend ⟨j, h⟩]
  else []

/-- What is done for chunk `c`. -/
def chunkSteps (c : Fin 16) : List Step :=
  sendSide (c.val + 3)
  ++ (if h : 4 ≤ c.val then [.outWait ⟨c.val - 4, by omega⟩, .yWait ⟨c.val - 4, by omega⟩] else [])
  ++ [.rxWait c, .mineWait c, .compute c]
  ++ (if h : c.val + 2 < 16 then [.mineStart ⟨c.val + 2, h⟩] else [])
  ++ [.outStart c, .ySend c]

/-- The steps after the barrier. -/
def steps : List Step :=
  [.thStart 0, .mineStart 0, .thStart 1, .mineStart 1]
  ++ sendSide 0 ++ sendSide 1 ++ sendSide 2
  ++ (List.finRange 16).flatMap chunkSteps
  ++ (List.finRange 16).map .sxWait
  ++ [12, 13, 14, 15].flatMap (fun j => [.outWait j, .yWait j])
  ++ (List.finRange 16).map .fwdWait

/-- The body: a signal to each partner, the wait for theirs, the steps. -/
def body : Pm F PUnit := do
  let d ← Prog.lift .deviceId
  semSignalWord (xDev d) barS 1#32
  semSignalWord (yDev d) barS 1#32
  semWaitWord barS 2#32
  runSteps d steps

set_option maxRecDepth 65536 in
/-- The printed body is the list of steps. -/
theorem body_eq : bodyAt0 (F := F) t0_0 = body := by
  chain_rfl

end Cert.KernelIdealProof

end
-- ==== Proof.IdealProtocol.lean ====
/- The protocol: one round on every semaphore of the kernel. What each semaphore brings when its transfer has landed, what
   each device owes its partners, and the order of the waits. -/
module

public import proofs.«01_k».proof.Proof.IdealSteps
public import Idealize.ShloMosaic.Lib.Rounds
public import Idealize.ShloMosaic.Lib.Rounds.Family
public import Idealize.ShloMosaic.Lib.Memref
public import Idealize.ShloMosaic.Lib.MemrefSat

@[expose] public section

noncomputable section

namespace Cert.KernelIdealProof

open Cert.KernelIdeal
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: those of the pipeline and those of the rounds, whose duties are named by a Boolean. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-! ## The mesh -/

theorem xDev_xDev : ∀ d : Dev nD, xDev (xDev d) = d := by decide
theorem yDev_yDev : ∀ d : Dev nD, yDev (yDev d) = d := by decide

/-- The exchange along x, and along y, as permutations of the devices. -/
def xSwap : Dev nD ≃ Dev nD := ⟨xDev, xDev, xDev_xDev, xDev_xDev⟩
def ySwap : Dev nD ≃ Dev nD := ⟨yDev, yDev, yDev_yDev, yDev_yDev⟩

/-! ## The cells -/

/-- Semaphore `j` of array `k` on device `d`. -/
abbrev cell (d : Dev nD) (k : Fin 7) (j : Fin 16) : GSem nD τ sig := ((d : Thread nD τ), .dma (dsem k j))
abbrev barCell (d : Dev nD) : GSem nD τ sig := ((d : Thread nD τ), .reg barS)

/-- The array and the position of a semaphore. -/
def kOf (q : DmaSem sig) : Fin 7 := ⟨(q.val - 1) / 16 % 7, Nat.mod_lt _ (by decide)⟩
def jOf (q : DmaSem sig) : Fin 16 := ⟨(q.val - 1) % 16, Nat.mod_lt _ (by decide)⟩

theorem kOf_dsem : ∀ (k : Fin 7) (j : Fin 16), kOf (dsem k j) = k := by decide
theorem jOf_dsem : ∀ (k : Fin 7) (j : Fin 16), jOf (dsem k j) = j := by decide

/-- The credit of one chunk of 32 bit numbers, and of one of 16 bit numbers. -/
def N32 : ℕ := (mineS 0).view.dmaCredit
def N16 : ℕ := (sxS 0).view.dmaCredit
theorem N32_pos : 0 < N32 := View.dmaCredit_pos _ (by decide)
theorem N16_pos : 0 < N16 := View.dmaCredit_pos _ (by decide)
/-- The credit of the transfers on array `k`. -/
def amt (k : Fin 7) : ℕ := if k.val < 2 then N32 else N16
theorem amt_pos (k : Fin 7) : 0 < amt k := by unfold amt; split; exacts [N32_pos, N16_pos]

/-! ## The contents -/

/-- What the devices start from: the rows of `partial` and the weights. -/
structure Inp (F : FTy → Type) [FloatOps F] where
  P : Dev nD → Vec F S8192x4096 .f32
  G : Dev nD → Vec F S1x4096 .f32

/-- A chunk as one slot of a buffer, and a slot as a chunk. -/
def un {s s' : Shape} (h : s'.numel = s.numel) {α : Type} (Y : s'.Idx → α) : s.Idx → α := fun i => Y ((Shape.reshapeEquiv h).symm i)
def sq {s s' : Shape} (h : s'.numel = s.numel) {α : Type} (Z : s.Idx → α) : s'.Idx → α := fun i => Z (Shape.reshapeEquiv h i)

theorem sqH : S128x4096.numel = S1x128x4096.numel := squeezes_S1x128x4096_S128x4096.numel_eq

variable (X : Inp F)

/-- Chunk `j` of the rows the partner along x keeps, and of those kept here. -/
def thX (d : Dev nD) (j : Fin 16) : Vec F S128x4096 .f32 := (pTh d j).view.read (Elt F) (X.P d)
def mineX (d : Dev nD) (j : Fin 16) : Vec F S128x4096 .f32 := (pMine d j).view.read (Elt F) (X.P d)
/-- Chunk `j` as sent along x, and as received. -/
def sxX (d : Dev nD) (j : Fin 16) : Vec F S128x4096 .bf16 := sq sqH (payX (un sqH (thX X d j)))
def rxX (d : Dev nD) (j : Fin 16) : Vec F S128x4096 .bf16 := sxX X (xDev d) j
/-- Chunk `j` of the results. -/
def resX (d : Dev nD) (j : Fin 16) : Vec F S128x4096 .bf16 := sq sqH (payC (un sqH (mineX X d j)) (un sqH (rxX X d j)) (X.G d))

/-! ## The payloads -/

/-- A memref held in full at contents not named. -/
def some_ (d : Dev nD) {sp : Space} {s : Shape} {e : EltTy} (m : Memref sig .tc sp s e) : sProp 𝕄 :=
  iprop(∃ Y, owns (d : Thread nD τ) m fullShare Y)

/-- What the transfer on semaphore `j` of array `k` brings on device `d`. -/
def dmaPay (d : Dev nD) (k : Fin 7) (j : Fin 16) : sProp 𝕄 :=
  match k with
  | 0 => iprop(owns (d : Thread nD τ) (mineS (s2 j)) fullShare (mineX X d j) ∗ owns (d : Thread nD τ) (pMine d j) fullShare (mineX X d j))
  | 1 => iprop(owns (d : Thread nD τ) (thS (s2 j)) fullShare (thX X d j) ∗ owns (d : Thread nD τ) (pTh d j) fullShare (thX X d j))
  | 2 => owns (d : Thread nD τ) (sxS j) fullShare (sxX X d j)
  | 3 => owns (d : Thread nD τ) (rxS j) fullShare (rxX X d j)
  | 4 => iprop(owns (d : Thread nD τ) (oOwn d j) fullShare (resX X d j) ∗ owns (d : Thread nD τ) (stS (s4 j)) fullShare.left (resX X d j))
  | 5 => owns (d : Thread nD τ) (stS (s4 j)) fullShare.right (resX X d j)
  | 6 => owns (d : Thread nD τ) (oFwd d j) fullShare (resX X (yDev d) j)

/-- What a device hands its partner along x at the barrier: the buffer it receives into, ready. And along y: the half of
    its result that the partner computes. -/
def lendX (d : Dev nD) (j : Fin 16) : sProp 𝕄 := iprop(some_ d (rxS j) ∗ reached ER (cell d 3 j) 0)
def lendY (d : Dev nD) (j : Fin 16) : sProp 𝕄 := iprop(some_ d (oOwn (yDev d) j) ∗ reached ER (cell d 6 j) 0)

/-- What the barrier brings on device `d`: from the partner along x (`false`) and from the one along y (`true`). -/
def barPay (d : Dev nD) (b : Bool) : sProp 𝕄 :=
  bif b then bigSep Finset.univ (fun j => lendY (yDev d) j) else bigSep Finset.univ (fun j => lendX (xDev d) j)

/-! ## The schedule -/

/-- One round: one duty on each transfer's semaphore, two on the barrier's. -/
def Rd : Rounds.Schedule (GSem nD τ sig) Bool 𝕄 where
  duties g r := if r = 0 then (match g.2 with | .reg _ => {false, true} | .dma _ => {false}) else ∅
  unitless _ := False
  amount g _ _ := match g.2 with | .reg _ => 1 | .dma q => amt (kOf q)
  payload g _ b := match g.2 with | .reg _ => barPay g.1.1 b | .dma q => dmaPay X g.1.1 (kOf q) (jOf q)
  amount_pos g _ _ _ := by
    rcases g with ⟨t, q | q⟩
    · exact Nat.one_pos
    · exact amt_pos _

instance dmaPay_storable (d : Dev nD) (k : Fin 7) (j : Fin 16) : BI.Storable (upEmb : UEmb _ 𝕄) (dmaPay X d k j) := by
  unfold dmaPay
  split <;> infer_instance
instance some_storable (d : Dev nD) {sp : Space} {s : Shape} {e : EltTy} (m : Memref sig .tc sp s e) :
    BI.Storable (upEmb : UEmb _ 𝕄) (some_ (F := F) d m) := by
  unfold some_; infer_instance
instance barPay_storable (d : Dev nD) (b : Bool) : BI.Storable (upEmb : UEmb _ 𝕄) (barPay (F := F) d b) := by
  unfold barPay lendX lendY
  cases b <;> dsimp only [cond_true, cond_false] <;> infer_instance
instance Rd_storable (g : GSem nD τ sig) (r : ℕ) (b : Bool) : BI.Storable (upEmb : UEmb _ 𝕄) ((Rd X).payload g r b) := by
  rcases g with ⟨t, q | q⟩
  · exact barPay_storable t.1 b
  · exact dmaPay_storable X t.1 (kOf q) (jOf q)

theorem duties_cell (d : Dev nD) (k : Fin 7) (j : Fin 16) : (Rd X).duties (cell d k j) 0 = {false} := rfl
theorem duties_bar (d : Dev nD) : (Rd X).duties (barCell d) 0 = {false, true} := rfl
theorem duties_later (g : GSem nD τ sig) (r : ℕ) (h : 1 ≤ r) : (Rd X).duties g r = ∅ := if_neg (by omega)
theorem amount_cell (d : Dev nD) (k : Fin 7) (j : Fin 16) (b : Bool) : (Rd X).amount (cell d k j) 0 b = amt k :=
  congrArg amt (kOf_dsem k j)
theorem amount_bar (d : Dev nD) (b : Bool) : (Rd X).amount (barCell d) 0 b = 1 := rfl
theorem payload_cell (d : Dev nD) (k : Fin 7) (j : Fin 16) (b : Bool) : (Rd X).payload (cell d k j) 0 b = dmaPay X d k j := by
  show dmaPay X d (kOf (dsem k j)) (jOf (dsem k j)) = _
  rw [kOf_dsem, jOf_dsem]
theorem payload_bar (d : Dev nD) (b : Bool) : (Rd X).payload (barCell d) 0 b = barPay d b := rfl
theorem expect_cell (d : Dev nD) (k : Fin 7) (j : Fin 16) : (Rd X).expect (cell d k j) 0 = amt k := by
  unfold Schedule.expect Schedule.amountOf; rw [duties_cell, Finset.sum_singleton, amount_cell]
theorem expect_bar (d : Dev nD) : (Rd X).expect (barCell d) 0 = 2 := rfl
theorem rest_cell (d : Dev nD) (k : Fin 7) (j : Fin 16) :
    bigSep ((Rd X).duties (cell d k j) 0 \ ∅) (fun b => (Rd X).payload (cell d k j) 0 b) = dmaPay X d k j := by
  rw [Finset.sdiff_empty, duties_cell, bigSep_singleton, payload_cell]
theorem rest_bar (d : Dev nD) :
    bigSep ((Rd X).duties (barCell d) 0 \ ∅) (fun b => (Rd X).payload (barCell d) 0 b) = iprop(barPay d false ∗ barPay d true) := by
  rw [Finset.sdiff_empty, duties_bar, bigSep_insert (by decide), bigSep_singleton, payload_bar, payload_bar]; rfl

/-! ## What is owed, and the levels -/

/-- The chunks from `b` on, owed to the partner along x; those from `n` on, owed to the one along y. -/
def oweX (d : Dev nD) (b : ℕ) : CellTallies nD τ sig Unit := ∑ j ∈ Finset.univ.filter (fun j : Fin 16 => b ≤ j.val), tallyAt (cell (xDev d) 3 j) () N16
def oweY (d : Dev nD) (n : ℕ) : CellTallies nD τ sig Unit := ∑ j ∈ Finset.univ.filter (fun j : Fin 16 => n ≤ j.val), tallyAt (cell (yDev d) 6 j) () N16
def owed (d : Dev nD) (b n : ℕ) : CellTallies nD τ sig Unit := oweX d b + oweY d n

theorem filter_step (j : Fin 16) : Finset.univ.filter (fun i : Fin 16 => j.val ≤ i.val) = insert j (Finset.univ.filter (fun i : Fin 16 => j.val + 1 ≤ i.val)) := by
  ext i; simp only [Finset.mem_filter, Finset.mem_univ, true_and, Finset.mem_insert, Fin.ext_iff]; omega
theorem filter_end : Finset.univ.filter (fun i : Fin 16 => 16 ≤ i.val) = ∅ := by
  ext i; simp only [Finset.mem_filter, Finset.mem_univ, true_and, Finset.notMem_empty, iff_false]; omega

theorem oweX_step (d : Dev nD) (j : Fin 16) : oweX d j.val = oweX d (j.val + 1) + tallyAt (cell (xDev d) 3 j) () N16 := by
  unfold oweX; rw [filter_step, Finset.sum_insert (by simp), add_comm]
theorem oweY_step (d : Dev nD) (j : Fin 16) : oweY d j.val = oweY d (j.val + 1) + tallyAt (cell (yDev d) 6 j) () N16 := by
  unfold oweY; rw [filter_step, Finset.sum_insert (by simp), add_comm]
theorem owed_x (d : Dev nD) (j : Fin 16) (n : ℕ) : owed d j.val n = owed d (j.val + 1) n + tallyAt (cell (xDev d) 3 j) () N16 := by
  unfold owed; rw [oweX_step, add_right_comm]
theorem owed_y (d : Dev nD) (b : ℕ) (j : Fin 16) : owed d b j.val = owed d b (j.val + 1) + tallyAt (cell (yDev d) 6 j) () N16 := by
  unfold owed; rw [oweY_step, add_assoc]
theorem owed_end (d : Dev nD) : owed d 16 16 = 0 := by
  unfold owed oweX oweY; rw [filter_end]; simp

/-- What is owed at launch: every chunk, and a unit to each partner's barrier. -/
def O₀ (d : Dev nD) : CellTallies nD τ sig Unit := owed d 0 0 + tallyAt (barCell (yDev d)) () 1 + tallyAt (barCell (xDev d)) () 1

def L (g : GSem nD τ sig) : Finset Unit := if g.1.2 = .tc then {()} else ∅
/-- The barrier first, then the chunks along x in order, then those along y; a device's own transfers before all of them. -/
def lv (g : GSem nD τ sig) (_ : Unit) : ℕ :=
  match g.2 with | .reg _ => 1 | .dma q => if kOf q = 3 then 2 + (jOf q).val else if kOf q = 6 then 100 else 0

theorem L_of_ne (g : GSem nD τ sig) (h : g.1.2 ≠ .tc) : L g = ∅ := if_neg h
theorem L_tc (d : Dev nD) (sm : SemLoc sig) : L ((d : Thread nD τ), sm) = {()} := if_pos rfl

def cellLev (k : Fin 7) (j : Fin 16) : ℕ := if k = 3 then 2 + j.val else if k = 6 then 100 else 0
theorem lv_cell (d : Dev nD) (k : Fin 7) (j : Fin 16) (u : Unit) : lv (cell d k j) u = cellLev k j := by
  show (if kOf (dsem k j) = 3 then 2 + (jOf (dsem k j)).val else if kOf (dsem k j) = 6 then 100 else 0) = _
  rw [kOf_dsem, jOf_dsem]; rfl

theorem pos_of_sum {I : Type} (s : Finset I) (c : I → GSem nD τ sig) (N : ℕ) {g : GSem nD τ sig} {u : Unit}
    (h : 0 < (∑ i ∈ s, (tallyAt (c i) () N : CellTallies nD τ sig Unit)) g u) : ∃ i ∈ s, g = c i := by
  classical
  by_contra hn
  have h0 : (∑ i ∈ s, (tallyAt (c i) () N : CellTallies nD τ sig Unit)) g u = 0 := by
    rw [Finset.sum_apply, Finsupp.finsetSum_apply]
    refine Finset.sum_eq_zero fun i hi => ?_
    rw [tallyAt_apply, if_neg (fun hh => hn ⟨i, hi, hh.1⟩)]
  omega

/-- A cell owed to is a partner's. -/
theorem owed_pos (d : Dev nD) (b n : ℕ) {g : GSem nD τ sig} {u : Unit} (h : 0 < owed d b n g u) :
    (∃ j : Fin 16, b ≤ j.val ∧ g = cell (xDev d) 3 j) ∨ (∃ j : Fin 16, n ≤ j.val ∧ g = cell (yDev d) 6 j) := by
  unfold owed at h
  rw [Pi.add_apply, Finsupp.add_apply] at h
  rcases Nat.eq_zero_or_pos (oweX d b g u) with h0 | h0
  · rw [h0, Nat.zero_add] at h
    obtain ⟨j, hj, e⟩ := pos_of_sum _ (fun j : Fin 16 => cell (yDev d) 6 j) N16 h
    exact .inr ⟨j, (Finset.mem_filter.mp hj).2, e⟩
  · obtain ⟨j, hj, e⟩ := pos_of_sum _ (fun j : Fin 16 => cell (xDev d) 3 j) N16 h0
    exact .inl ⟨j, (Finset.mem_filter.mp hj).2, e⟩

/-- A wait below everything still owed. -/
theorem mayWait (d : Dev nD) (sm : SemLoc sig) (b n : ℕ) (cut : ℕ) (h : lv ((d : Thread nD τ), sm) () ≤ cut)
    (hx : b < 16 → cut < 2 + b) (hy : n < 16 → cut < 100) :
    (levAts L lv : sProp 𝕄) ⊢ MayWait (d : Thread nD τ) sm () (owed d b n) :=
  MayOwe.of_cut (L := L) (lev := lv) cut (fun p hp => by rw [Finset.mem_singleton.mp hp, L_tc]; exact Finset.mem_singleton_self _)
    (fun g u hg => by
      rcases owed_pos d b n hg with ⟨j, -, e⟩ | ⟨j, -, e⟩ <;> rw [e, L_tc] <;> exact Finset.mem_singleton_self _)
    (fun p hp => by rw [Finset.mem_singleton.mp hp]; exact h)
    (fun g u hg => by
      rcases owed_pos d b n hg with ⟨j, hj, e⟩ | ⟨j, hj, e⟩ <;> rw [e, lv_cell]
      · have := hx (lt_of_le_of_lt hj j.isLt); show cut < 2 + j.val; omega
      · exact hy (lt_of_le_of_lt hj j.isLt))

end Cert.KernelIdealProof

end
-- ==== Proof.IdealOps.lean ====
/- The kinds of operation of the body: a slot of a buffer loaded, stored, copied within the device, sent to a partner, and
   the wait for a transfer. -/
module

public import proofs.«01_k».proof.Proof.IdealProtocol

@[expose] public section

noncomputable section

namespace Cert.KernelIdealProof

open Cert.KernelIdeal
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `d` runs `p` to an end where `Q` holds. -/
abbrev Runs (d : Dev nD) (p : Pm F PUnit) (Q : PUnit → sProp 𝕄) : sProp 𝕄 :=
  wp frame (wpE (defs₀ (F := F)) 𝒱₀ (d : Thread nD τ) none) Set.univ p Q

variable (d : Dev nD) {Q : PUnit.{1} → sProp (MT nD τ sig Unit (Elt F) ℕ UU ℕ)}

/-! ## Slots -/

section Slots

variable {cs : CoreSpace} {sh s' : Shape} {e : EltTy} (M : Memref sig .tc cs sh e) (R : Rect sh) (hR : ∀ a, R.stride a = 1)
  (h : R.shape.Squeezes s')

/-- A slot as a chunk holds what the slot as a rectangle holds, re-indexed. -/
theorem slot_read (f : M.view.ty.Contents (Elt F)) : ((M.slice R hR).squeeze s' h).view.read (Elt F) f = sq h.numel_eq ((M.access R).read (Elt F) f) := rfl
theorem slot_set : ((M.slice R hR).squeeze s' h).view.set = (M.access R).set := View.set_reshape _ _

theorem un_sq {s s' : Shape} (h : s'.numel = s.numel) {α : Type} (Z : s.Idx → α) : un h (sq h Z) = Z := by
  funext i; simp only [un, sq, Equiv.apply_symm_apply]

/-- Loading a slot held as a chunk. -/
theorem wp_slot_load {q : PosShare TreeShare} {Y : s'.Idx → Elt F e} {hl : M.view.LoadsAt R.toLoadRect}
    {k : (R.shape.Idx → Elt F e) → Pm F PUnit} :
    owns (d : Thread nD τ) ((M.slice R hR).squeeze s' h) q Y
      ⊢ iprop((owns (d : Thread nD τ) ((M.slice R hR).squeeze s' h) q Y -∗ Runs d (k (un h.numel_eq Y)) Q)
        -∗ Runs d (.op (.load M R.toLoadRect hl) k) Q) := by
  unfold owns
  iintro ⟨%f, %hf, H⟩ Hk
  subst hf
  iapply (wp_load_rect 𝒱₀ (d : Thread nD τ) none Set.univ (m := M) (r := R) (S := ((M.slice R hR).squeeze s' h).view.set) (q := q) (f := f)
    (by rw [slot_set])) $$ H
  iintro H
  rw [slot_read, un_sq]
  iapply Hk
  iexists f
  isplitr; · ipureintro; rfl
  iexact H

/-- Storing a slot whole. -/
theorem wp_slot_store {w : R.shape.Idx → Elt F e} {hx : (M.access R).Stores Finset.univ} {hm : (Finset.univ : Finset R.shape.Idx) = Finset.univ ∨ ∀ a, R.stride a = 1}
    {k : PUnit → Pm F PUnit} :
    some_ d ((M.slice R hR).squeeze s' h)
      ⊢ iprop((owns (d : Thread nD τ) ((M.slice R hR).squeeze s' h) fullShare (sq h.numel_eq w) -∗ Runs d (k ⟨⟩) Q)
        -∗ Runs d (.op (.store M R w Finset.univ hx hm) k) Q) := by
  unfold some_ owns
  iintro ⟨%Y, %f, -, H⟩ Hk
  iapply (wp_store 𝒱₀ (d : Thread nD τ) none Set.univ (m := M) (r := R) (S := ((M.slice R hR).squeeze s' h).view.set) (f := f) (w := w)
    (by rw [slot_set]; exact Finset.map_subset_map.mpr (Finset.subset_univ _))) $$ H
  iintro H
  iapply Hk
  iexists ((M.access R).write (Elt F) f w Finset.univ)
  isplitr
  · ipureintro; rw [slot_read, View.read_write_univ]
  iexact H

end Slots

/-- The shares of a memref, at contents that may be forgotten. -/
theorem some_intro {sp : Space} {s : Shape} {e : EltTy} (m : Memref sig .tc sp s e) (Y : s.Idx → Elt F e) :
    owns (d : Thread nD τ) m fullShare Y ⊢ some_ d m := by
  unfold some_; iintro H; iexists Y; iexact H

theorem some_elim {sp : Space} {s : Shape} {e : EltTy} (m : Memref sig .tc sp s e) :
    (some_ d m : sProp 𝕄) ⊢ iprop(∃ f, m.view.loc (d : Thread nD τ) ↦[m.view.set]{fullShare} f) := by
  unfold some_ owns
  iintro ⟨%Y, %f, -, H⟩
  iexists f; iexact H
theorem owns_written {p : Dev nD} {sp : Space} {s : Shape} {e : EltTy} (dst : Memref sig .tc sp s e) (fd : dst.view.ty.Contents (Elt F)) (Y : s.Idx → Elt F e) :
    (dst.view.loc (p : Thread nD τ) ↦[dst.view.set]{fullShare} dst.view.write (Elt F) fd Y Finset.univ) ⊢ (owns (p : Thread nD τ) dst fullShare Y : sProp 𝕄) := by
  unfold owns
  iintro H
  iexists _; isplitr
  swap; · iexact H
  ipureintro; exact View.read_write_univ _ _

/-! ## Transfers -/

variable (X : Inp F)

/-- What every device knows: the invariant of every cell, at the names `K`, and the levels. -/
def known (K : GSem nD τ sig → ℕ) : sProp 𝕄 :=
  iprop((bigSep Finset.univ fun d : Dev nD => bigSep Finset.univ fun kj : Fin 7 × Fin 16 => cellInv ER (Rd X) (K (cell d kj.1 kj.2)) (cell d kj.1 kj.2))
    ∗ (bigSep Finset.univ fun d : Dev nD => cellInv ER (Rd X) (K (barCell d)) (barCell d))
    ∗ levAts L lv)
instance known_persistent (K : GSem nD τ sig → ℕ) : BI.Persistent (known X K) := by unfold known; infer_instance

omit [FloatOps F] in
theorem at_elim {I : Type} [Fintype I] [DecidableEq I] (Φ : I → sProp 𝕄) (i : I) : (bigSep Finset.univ Φ : sProp 𝕄) ⊢ Φ i := bigSep_elim (Finset.mem_univ i)

theorem known_cell (K : GSem nD τ sig → ℕ) (k : Fin 7) (j : Fin 16) : known X K ⊢ cellInv ER (Rd X) (K (cell d k j)) (cell d k j) := by
  unfold known
  iintro ⟨H, -, -⟩
  ihave H1 := (at_elim (fun d : Dev nD => bigSep Finset.univ fun kj : Fin 7 × Fin 16 => cellInv ER (Rd X) (K (cell d kj.1 kj.2)) (cell d kj.1 kj.2)) d) $$ H
  iapply (at_elim (fun kj : Fin 7 × Fin 16 => cellInv ER (Rd X) (K (cell d kj.1 kj.2)) (cell d kj.1 kj.2)) (k, j)) $$ H1
theorem known_bar (K : GSem nD τ sig → ℕ) : known X K ⊢ cellInv ER (Rd X) (K (barCell d)) (barCell d) := by
  unfold known
  iintro ⟨-, H, -⟩
  iapply (at_elim (fun d : Dev nD => cellInv ER (Rd X) (K (barCell d)) (barCell d)) d) $$ H
theorem known_lev (K : GSem nD τ sig → ℕ) : known X K ⊢ (levAts L lv : sProp 𝕄) := by
  unfold known
  iintro ⟨-, -, H⟩
  iexact H

/-- The waits made so far are of no interest. -/
def Owe (O : CellTallies nD τ sig Unit) : sProp 𝕄 := iprop(∃ W, owes (d : Thread nD τ) O W)

variable (K : GSem nD τ sig → ℕ) (k : Fin 7) (j : Fin 16)

/-- The right to start the transfer on a cell of one's own; what one has while it runs. -/
def ready : sProp 𝕄 := iprop(dutyTok ER (cell d k j) 0 false ∗ reached ER (cell d k j) 0)
def sent : sProp 𝕄 := cred (tallyAt (cell d k j) () (amt k))

/-- A copy within the device. -/
theorem wp_local {sp sp' : Space} {s : Shape} {e : EltTy} (src : Memref sig .tc sp s e) (dst : Memref sig .tc sp' s e) {q : PosShare TreeShare}
    {Y : s.Idx → Elt F e} (hN : dst.view.dmaCredit = amt k)
    (hpay : iprop(owns (d : Thread nD τ) dst fullShare Y ∗ owns (d : Thread nD τ) src q Y) ⊢ dmaPay X d k j)
    {hsrc : src.view.WordExact} {hdst : dst.view.WordExact} {hsem : DmaTarget.Typed (nD := nD) (p := Proc.tc) sp (.dma (dsem k j)) (.here dst)}
    {kk : PUnit → Pm F PUnit} :
    iprop(known X K ∗ owns (d : Thread nD τ) src q Y ∗ some_ d dst ∗ ready d k j)
      ⊢ iprop((sent d k j -∗ Runs d (kk ⟨⟩) Q)
        -∗ Runs d (.op (.enqueueDma src (.here dst) (.dma (dsem k j)) hsrc hdst hsem) kk) Q) := by
  unfold ready
  iintro ⟨#HK, Hs, Hd, Htok, #Hr⟩ Hk
  ihave Hs := (show owns (d : Thread nD τ) src q Y ⊢ iprop(∃ f, ⌜src.view.read (Elt F) f = Y⌝ ∗ src.view.loc (d : Thread nD τ) ↦[src.view.set]{q} f) from .rfl) $$ Hs
  icases Hs with ⟨%fs, %hfs, Hs⟩
  ihave Hd := (some_elim _ dst) $$ Hd
  icases Hd with ⟨%fd, Hd⟩
  subst hfs
  iapply (Rounds.wp_copy_pointsTo 𝒱₀ ER (Rd X) (d : Thread nD τ) none (src := src) (dst := dst) (sem := .dma (dsem k j)) (r := 0) (d := false) (κ := K (cell d k j))
    (by rw [duties_cell]; exact Finset.mem_singleton_self _) () (amt k) hN (amount_cell X d k j false)
    (by
      rw [payload_cell]
      exact (BIClass.sep_mono (owns_written dst fd _) (owns_intro (d : Thread nD τ) src q fs)).trans hpay)) $$ [Hs Hd Htok]
  · isplitr; · iapply (known_cell d X K k j); iexact HK
    isplitl [Hs]; · iexact Hs
    isplitl [Hd]; · iexact Hd
    isplitl [Htok]; · iexact Htok
    iexact Hr
  iexact Hk

/-- A transfer to the same chunk of a partner's memref. -/
theorem wp_remote (p : Dev nD) (kR : Fin 7) {sp sp' : Space} {s : Shape} {e : EltTy} (src : Memref sig .tc sp s e) (dst : Memref sig .tc sp' s e) {q : PosShare TreeShare}
    {Y : s.Idx → Elt F e} (hN : dst.view.dmaCredit = amt k) (hNR : amt kR = amt k)
    (hpay : owns (d : Thread nD τ) src q Y ⊢ dmaPay X d k j)
    (hpayR : owns (p : Thread nD τ) dst fullShare Y ⊢ dmaPay X p kR j)
    {O₀ O : CellTallies nD τ sig Unit} (hO : O₀ = O + tallyAt (cell p kR j) () (amt k))
    (hr : τ.routes (d : Thread nD τ) (p : Thread nD τ) = true)
    {hsc : dst.view.ref.isScScratch = false}
    {hsrc : src.view.WordExact} {hdst : dst.view.WordExact}
    {hsem : DmaTarget.Typed (p := Proc.tc) sp (.dma (dsem kR j)) (.remote (Dev.tc p) dst (.dma (dsem k j)) hsc)}
    {kk : PUnit → Pm F PUnit} :
    iprop(known X K ∗ owns (d : Thread nD τ) src q Y ∗ some_ p dst ∗ ready d k j ∗ ready p kR j ∗ Owe d O₀)
      ⊢ iprop((sent d k j ∗ Owe d O -∗ Runs d (kk ⟨⟩) Q)
        -∗ Runs d (.op (.enqueueDma src (.remote (Dev.tc p) dst (.dma (dsem k j)) hsc) (.dma (dsem kR j)) hsrc hdst hsem) kk) Q) := by
  unfold ready Owe
  iintro ⟨#HK, Hs, Hd, ⟨Htok, #Hr⟩, ⟨HtokR, #HrR⟩, ⟨%W, HO⟩⟩ Hk
  ihave Hs := (show owns (d : Thread nD τ) src q Y ⊢ iprop(∃ f, ⌜src.view.read (Elt F) f = Y⌝ ∗ src.view.loc (d : Thread nD τ) ↦[src.view.set]{q} f) from .rfl) $$ Hs
  icases Hs with ⟨%fs, %hfs, Hs⟩
  ihave Hd := (some_elim _ dst) $$ Hd
  icases Hd with ⟨%fd, Hd⟩
  subst hfs
  iapply (Rounds.wp_send_pointsTo 𝒱₀ ER (Rd X) (d : Thread nD τ) none (c' := (p : Thread nD τ)) (src := src) (dst := dst) (sS := .dma (dsem k j)) (sem := .dma (dsem kR j))
    (q := q) (fs := fs) (fd := fd) (r₁ := 0) (r₂ := 0) (d₁ := false) (d₂ := false) (κ₁ := K (cell d k j)) (κ₂ := K (cell p kR j))
    (by rw [duties_cell]; exact Finset.mem_singleton_self _) (by rw [duties_cell]; exact Finset.mem_singleton_self _)
    () () (amt k) hN (amount_cell X d k j false) ((amount_cell X p kR j false).trans hNR) O hO (W := W)
    (by
      rw [payload_cell]
      exact (owns_intro (d : Thread nD τ) src q fs).trans hpay)
    (by
      rw [payload_cell]
      exact (owns_written dst fd _).trans hpayR) (hr := hr)) $$ [Hs Hd Htok HtokR HO]
  · isplitr; · iapply (known_cell d X K k j); iexact HK
    isplitr; · iapply (known_cell p X K kR j); iexact HK
    isplitl [Hs]; · iexact Hs
    isplitl [Hd]; · iexact Hd
    isplitl [HO]; · iexact HO
    isplitl [Htok]; · iexact Htok
    isplitr; · iexact Hr
    isplitl [HtokR]; · iexact HtokR
    iexact HrR
  iintro ⟨Hc, HO⟩
  iapply Hk
  isplitl [Hc]; · unfold sent; iexact Hc
  iexists W; iexact HO

theorem mayWait_cell (b n : ℕ) (hx : b < 16 → cellLev k j < 2 + b) (hy : n < 16 → cellLev k j < 100) :
    (levAts L lv : sProp 𝕄) ⊢ MayWait (d : Thread nD τ) (.dma (dsem k j)) () (owed d b n) :=
  mayWait d _ b n (cellLev k j) (le_of_eq (lv_cell d k j ())) hx hy

/-- The wait for a transfer. -/
theorem wp_land {sp sp' : Space} {s s₁ : Shape} {e e₁ : EltTy} (src : Memref sig .tc sp s₁ e₁) (dst : Memref sig .tc sp' s e)
    (hN : dst.view.dmaCredit = amt k) (b n : ℕ) (hx : b < 16 → cellLev k j < 2 + b) (hy : n < 16 → cellLev k j < 100)
    {hsrc : src.view.WordExact} {hdst : dst.view.WordExact}
    {kk : PUnit → Pm F PUnit} :
    iprop(known X K ∗ sent d k j ∗ atPos ER (cell d k j) 0 ∅ 0 ∗ Owe d (owed d b n))
      ⊢ iprop((dmaPay X d k j ∗ atPos ER (cell d k j) (0 + 1) ∅ 0 ∗ Owe d (owed d b n) -∗ Runs d (kk ⟨⟩) Q)
        -∗ Runs d (.op (.waitDma2 (dsem k j) src dst hsrc hdst) kk) Q) := by
  have hw := @known_lev F _ X K
  have e : sent d k j = (cred (tallyAt (cell d k j) () dst.view.dmaCredit) : sProp 𝕄) := by unfold sent; rw [hN]
  rw [e]
  unfold Owe
  iintro ⟨#HK, Hc, Hat, ⟨%W, HO⟩⟩ Hk
  iapply (Rounds.wp_wait_rest_token 𝒱₀ ER (Rd X) (d : Thread nD τ) none (κ := K (cell d k j)) (sm := .dma (dsem k j)) (k' := dst.view.dmaCredit)
    (wpE_waitDma2_eq 𝒱₀ (d : Thread nD τ) none Set.univ) (Set.mem_univ _) () (O := owed d b n) (W := W) (R := 0) (m := 0) (T := ∅)
    ((Nat.zero_add _).trans (hN.trans (expect_cell X d k j).symm))) $$ [Hc Hat HO]
  · isplitr; · iapply (known_cell d X K k j); iexact HK
    isplitl [Hc]; · iexact Hc
    isplitl [HO]; · iexact HO
    isplitr
    · iapply (hw.trans (mayWait_cell d k j b n hx hy)); iexact HK
    iexact Hat
  iintro ⟨HO, Hat, -, Hp⟩
  ihave Hp := (Entails.of_eq (rest_cell X d k j)) $$ Hp
  iapply Hk
  isplitl [Hp]; · iexact Hp
  isplitl [Hat]; · iexact Hat
  iexists _; iexact HO

end Cert.KernelIdealProof

end
-- ==== Proof.IdealRun.lean ====
/- The steps as a state machine. The state says of each transfer, buffer slot and block of rows how far it has come, and so
   what this device holds of it; each step changes the few it touches, and the list of steps is checked by running it. -/
module

public import proofs.«01_k».proof.Proof.IdealOps

@[expose] public section

noncomputable section

namespace Cert.KernelIdealProof

open Cert.KernelIdeal
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The state -/

/-- What has a status of its own: a semaphore; for each chunk, one of eight things; a slot of one of the three small buffers. -/
abbrev Atom := (Fin 7 × Fin 16) ⊕ (Fin 8 × Fin 16) ⊕ Fin 2 ⊕ Fin 2 ⊕ Fin 4

/-- Semaphore `j` of array `k`. -/
abbrev aCell (k : Fin 7) (j : Fin 16) : Atom := .inl (k, j)
/-- The place of chunk `j` at the partner along x, and at the one along y. -/
abbrev aToX (j : Fin 16) : Atom := .inr (.inl (0, j))
abbrev aToY (j : Fin 16) : Atom := .inr (.inl (1, j))
/-- Chunk `j` of the buffers sent from and received into along x. -/
abbrev aSx (j : Fin 16) : Atom := .inr (.inl (2, j))
abbrev aRx (j : Fin 16) : Atom := .inr (.inl (3, j))
/-- Chunk `j` of the half of the result computed here, and of the other half. -/
abbrev aOwn (j : Fin 16) : Atom := .inr (.inl (4, j))
abbrev aFwd (j : Fin 16) : Atom := .inr (.inl (5, j))
/-- Chunk `j` of the rows of `partial` that the partner keeps, and of those kept here. -/
abbrev aSrcTh (j : Fin 16) : Atom := .inr (.inl (6, j))
abbrev aSrcMine (j : Fin 16) : Atom := .inr (.inl (7, j))
/-- The slots of the small buffers. -/
abbrev aMine (s : Fin 2) : Atom := .inr (.inr (.inl s))
abbrev aTh (s : Fin 2) : Atom := .inr (.inr (.inr (.inl s)))
abbrev aSt (s : Fin 4) : Atom := .inr (.inr (.inr (.inr s)))

variable (X : Inp F) (d : Dev nD)

/-- The chunk a status names. -/
abbrev ch (t : ℕ) : Fin 16 := ⟨t % 16, Nat.mod_lt _ (by decide)⟩

/-- A semaphore: its transfer not started, running, waited for. -/
def cellRes (k : Fin 7) (j : Fin 16) (t : ℕ) : sProp 𝕄 :=
  match t with
  | 0 => iprop(ready d k j ∗ atPos ER (cell d k j) 0 ∅ 0)
  | 1 => iprop(sent d k j ∗ atPos ER (cell d k j) 0 ∅ 0)
  | _ => atPos ER (cell d k j) (0 + 1) ∅ 0

/-- The things a chunk has one of. -/
def chunkRes (i : Fin 8) (j : Fin 16) (t : ℕ) : sProp 𝕄 :=
  match i with
  | 0 => match t with | 0 => iprop(some_ (xDev d) (rxS j) ∗ ready (xDev d) 3 j) | _ => iprop(emp)
  | 1 => match t with | 0 => iprop(some_ (yDev d) (oOwn d j) ∗ ready (yDev d) 6 j) | _ => iprop(emp)
  | 2 => match t with | 0 => some_ d (sxS j) | 1 => owns (d : Thread nD τ) (sxS j) fullShare (sxX X d j) | _ => iprop(emp)
  | 3 => match t with | 0 => iprop(emp) | _ => owns (d : Thread nD τ) (rxS j) fullShare (rxX X d j)
  | 4 => match t with | 0 => some_ d (oOwn d j) | 1 => iprop(emp) | _ => owns (d : Thread nD τ) (oOwn d j) fullShare (resX X d j)
  | 5 => match t with | 0 => iprop(emp) | _ => owns (d : Thread nD τ) (oFwd d j) fullShare (resX X (yDev d) j)
  | 6 => match t with | 0 => owns (d : Thread nD τ) (pTh d j) fullShare (thX X d j) | _ => iprop(emp)
  | 7 => match t with | 0 => owns (d : Thread nD τ) (pMine d j) fullShare (mineX X d j) | _ => iprop(emp)

/-- A slot: free, being filled, or holding a chunk. -/
def mineRes (s : Fin 2) (t : ℕ) : sProp 𝕄 :=
  match t with | 0 => some_ d (mineS s) | 1 => iprop(emp) | t + 2 => owns (d : Thread nD τ) (mineS s) fullShare (mineX X d (ch t))
def thRes (s : Fin 2) (t : ℕ) : sProp 𝕄 :=
  match t with | 0 => some_ d (thS s) | 1 => iprop(emp) | t + 2 => owns (d : Thread nD τ) (thS s) fullShare (thX X d (ch t))
/-- A slot of results: free, read by two transfers, or holding a chunk in full, in its right half, in its left half. -/
def stRes (s : Fin 4) (t : ℕ) : sProp 𝕄 :=
  match t with
  | 0 => some_ d (stS s)
  | 1 => iprop(emp)
  | t + 2 => owns (d : Thread nD τ) (stS s) (if t < 16 then fullShare else if t < 32 then fullShare.right else fullShare.left) (resX X d (ch t))

/-- What device `d` holds of a thing at a status. -/
def res (a : Atom) (t : ℕ) : sProp 𝕄 :=
  match a with
  | .inl kj => cellRes d kj.1 kj.2 t
  | .inr (.inl ij) => chunkRes X d ij.1 ij.2 t
  | .inr (.inr (.inl s)) => mineRes X d s t
  | .inr (.inr (.inr (.inl s))) => thRes X d s t
  | .inr (.inr (.inr (.inr s))) => stRes X d s t

/-- What a step touches: the status before and after. -/
def foot : Step → List (Atom × ℕ × ℕ)
  | .thStart j => [(aCell 1 j, 0, 1), (aSrcTh j, 0, 1), (aTh (s2 j), 0, 1)]
  | .thWait j => [(aCell 1 j, 1, 2), (aSrcTh j, 1, 0), (aTh (s2 j), 1, j.val + 2)]
  | .sxFill j => [(aTh (s2 j), j.val + 2, 0), (aSx j, 0, 1)]
  | .sxSend j => [(aCell 2 j, 0, 1), (aToX j, 0, 1), (aSx j, 1, 2)]
  | .sxWait j => [(aCell 2 j, 1, 2), (aSx j, 2, 1)]
  | .mineStart j => [(aCell 0 j, 0, 1), (aSrcMine j, 0, 1), (aMine (s2 j), 0, 1)]
  | .mineWait j => [(aCell 0 j, 1, 2), (aSrcMine j, 1, 0), (aMine (s2 j), 1, j.val + 2)]
  | .rxWait j => [(aCell 3 j, 1, 2), (aRx j, 0, 1)]
  | .compute j => [(aMine (s2 j), j.val + 2, 0), (aRx j, 1, 1), (aSt (s4 j), 0, j.val + 2)]
  | .outStart j => [(aCell 4 j, 0, 1), (aSt (s4 j), j.val + 2, j.val + 16 + 2), (aOwn j, 0, 1)]
  | .outWait j => [(aCell 4 j, 1, 2), (aSt (s4 j), 1, j.val + 32 + 2), (aOwn j, 1, 2)]
  | .ySend j => [(aCell 5 j, 0, 1), (aToY j, 0, 1), (aSt (s4 j), j.val + 16 + 2, 1)]
  | .yWait j => [(aCell 5 j, 1, 2), (aSt (s4 j), j.val + 32 + 2, 0)]
  | .fwdWait j => [(aCell 6 j, 1, 2), (aFwd j, 0, 1)]

/-- What a step asks of the numbers `b`, `n` of chunks sent along x and along y, and how it changes them. -/
def Step.ok (b n : ℕ) : Step → Bool
  | .sxSend j => b == j.val
  | .ySend j => n == j.val
  | .rxWait j => j.val < b
  | .fwdWait _ => b == 16 && n == 16
  | _ => true
def Step.nextX (b : ℕ) : Step → ℕ | .sxSend _ => b + 1 | _ => b
def Step.nextY (n : ℕ) : Step → ℕ | .ySend _ => n + 1 | _ => n

/-- The statuses after a change. -/
def upd : List (Atom × ℕ × ℕ) → (Atom → ℕ) → Atom → ℕ
  | [], f => f
  | x :: l, f => Function.update (upd l f) x.1 x.2.2

/-- What is held before, and after, of the things touched. -/
def before (l : List (Atom × ℕ × ℕ)) : sProp 𝕄 := l.foldr (fun x R => iprop(res X d x.1 x.2.1 ∗ R)) iprop(emp)
def after (l : List (Atom × ℕ × ℕ)) : sProp 𝕄 := l.foldr (fun x R => iprop(res X d x.1 x.2.2 ∗ R)) iprop(emp)

/-- The things a step touches, taken out of what is held and put back changed. -/
theorem take_out (f : Atom → ℕ) : ∀ (l : List (Atom × ℕ × ℕ)) (T : Finset Atom), (∀ x ∈ l, x.1 ∈ T) → (l.map Prod.fst).Nodup →
    (∀ x ∈ l, f x.1 = x.2.1) →
    (bigSep T fun a => res X d a (f a) : sProp 𝕄) ⊢ iprop(before X d l ∗ (after X d l -∗ bigSep T fun a => res X d a (upd l f a)))
  | [], T, _, _, _ => by
      show _ ⊢ iprop(emp ∗ (emp -∗ bigSep T fun a => res X d a (f a)))
      iintro H
      isplitr; · iempintro
      iintro -
      iexact H
  | x :: l, T, hT, hn, hf => by
      have hx : x.1 ∈ T := hT x (by simp)
      rw [List.map_cons, List.nodup_cons] at hn
      have hne : ∀ y ∈ l, y.1 ≠ x.1 := fun y hy h => hn.1 (h ▸ List.mem_map_of_mem hy)
      have ih := take_out f l (T.erase x.1) (fun y hy => Finset.mem_erase.mpr ⟨hne y hy, hT y (by simp [hy])⟩) hn.2 (fun y hy => hf y (by simp [hy]))
      have e1 : (bigSep T fun a => res X d a (f a) : sProp 𝕄) ⊢ iprop(res X d x.1 x.2.1 ∗ bigSep (T.erase x.1) fun a => res X d a (f a)) := by
        rw [bigSep_erase hx, hf x (by simp)]; exact .rfl
      have e2 : iprop(res X d x.1 x.2.2 ∗ bigSep (T.erase x.1) fun a => res X d a (upd l f a)) ⊢ (bigSep T fun a => res X d a (upd (x :: l) f a) : sProp 𝕄) := by
        rw [bigSep_erase (s := T) hx, bigSep_congr (s := T.erase x.1) (Φ := fun a => res X d a (upd (x :: l) f a)) (Ψ := fun a => res X d a (upd l f a))
          (fun a ha => by show res X d a (Function.update (upd l f) x.1 x.2.2 a) = _; rw [Function.update_of_ne (Finset.ne_of_mem_erase ha)])]
        show _ ⊢ iprop(res X d x.1 (Function.update (upd l f) x.1 x.2.2 x.1) ∗ _)
        rw [Function.update_self]
      show _ ⊢ iprop((res X d x.1 x.2.1 ∗ before X d l) ∗ ((res X d x.1 x.2.2 ∗ after X d l) -∗ bigSep T fun a => res X d a (upd (x :: l) f a)))
      iintro H
      ihave H := e1 $$ H
      icases H with ⟨Hx, H⟩
      ihave H := ih $$ H
      icases H with ⟨Hl, Hk⟩
      isplitl [Hx Hl]
      · isplitl [Hx]; · iexact Hx
        iexact Hl
      iintro ⟨Hx, Hl⟩
      iapply e2
      isplitl [Hx]; · iexact Hx
      iapply Hk; iexact Hl

theorem foot_nodup : ∀ s : Step, ((foot s).map Prod.fst).Nodup
  | .thStart j | .thWait j | .sxFill j | .sxSend j | .sxWait j | .mineStart j | .mineWait j | .rxWait j | .compute j
  | .outStart j | .outWait j | .ySend j | .yWait j | .fwdWait j => by simp [foot]

/-- The whole state. -/
structure St where
  f : Atom → ℕ
  b : ℕ
  n : ℕ

/-- A step, if it may run. -/
def next (s : Step) (σ : St) : Option St :=
  if ((foot s).all fun x => σ.f x.1 == x.2.1) && s.ok σ.b σ.n then some ⟨upd (foot s) σ.f, s.nextX σ.b, s.nextY σ.n⟩ else none

/-- A list of steps. -/
def nextAll : List Step → St → Option St
  | [], σ => some σ
  | s :: ss, σ => (next s σ).bind (nextAll ss)

/-- What device `d` holds in a state, with the weights beside. -/
def weights : sProp 𝕄 := owns (d : Thread nD τ) gM fullShare (X.G d)
def held (σ : St) : sProp 𝕄 := iprop((bigSep Finset.univ fun a => res X d a (σ.f a)) ∗ weights X d ∗ Owe d (owed d σ.b σ.n))

end Cert.KernelIdealProof

end
-- ==== Proof.IdealStepRules.lean ====
/- Each step of the body run from the state it asks for, and the body run whole. -/
module

public import proofs.«01_k».proof.Proof.IdealRun

@[expose] public section

noncomputable section

namespace Cert.KernelIdealProof

open Cert.KernelIdeal
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inp F) (d : Dev nD) (K : GSem nD τ sig → ℕ) {Q : PUnit.{1} → sProp (MT nD τ sig Unit (Elt F) ℕ UU ℕ)}
variable (b n : ℕ) (j : Fin 16)

/-- A step runs: from what it touches, the weights and what is owed, to the same after it. -/
def StepRuns (s : Step) : Prop :=
  ∀ (Q : PUnit.{1} → sProp (MT nD τ sig Unit (Elt F) ℕ UU ℕ)) (k : PUnit.{1} → Pm F PUnit.{1}),
    iprop(known X K ∗ before X d (foot s) ∗ weights X d ∗ Owe d (owed d b n))
      ⊢ iprop((after X d (foot s) ∗ weights X d ∗ Owe d (owed d (s.nextX b) (s.nextY n)) -∗ Runs d (k ⟨⟩) Q) -∗ Runs d ((s.prog d).bind k) Q)

theorem ch_eq : ch j.val = j := Fin.ext (Nat.mod_eq_of_lt j.isLt)
theorem mineRes_at (s : Fin 2) : mineRes X d s (j.val + 2) = owns (d : Thread nD τ) (mineS s) fullShare (mineX X d j) := by
  show owns (d : Thread nD τ) (mineS s) fullShare (mineX X d (ch j.val)) = _; rw [ch_eq]
theorem thRes_at (s : Fin 2) : thRes X d s (j.val + 2) = owns (d : Thread nD τ) (thS s) fullShare (thX X d j) := by
  show owns (d : Thread nD τ) (thS s) fullShare (thX X d (ch j.val)) = _; rw [ch_eq]
theorem stRes_at (s : Fin 4) (t : ℕ) (h : t % 16 = j.val) :
    stRes X d s (t + 2) = owns (d : Thread nD τ) (stS s) (if t < 16 then fullShare else if t < 32 then fullShare.right else fullShare.left) (resX X d j) := by
  show owns (d : Thread nD τ) (stS s) _ (resX X d (ch t)) = _; rw [show ch t = j from Fin.ext h]
theorem stRes_full (s : Fin 4) : stRes X d s (j.val + 2) = owns (d : Thread nD τ) (stS s) fullShare (resX X d j) := by
  rw [stRes_at X d j s j.val (by omega), if_pos j.isLt]
theorem stRes_right (s : Fin 4) : stRes X d s (j.val + 16 + 2) = owns (d : Thread nD τ) (stS s) fullShare.right (resX X d j) := by
  rw [stRes_at X d j s (j.val + 16) (by omega), if_neg (by omega), if_pos (by omega)]
theorem stRes_left (s : Fin 4) : stRes X d s (j.val + 32 + 2) = owns (d : Thread nD τ) (stS s) fullShare.left (resX X d j) := by
  rw [stRes_at X d j s (j.val + 32) (by omega), if_neg (by omega), if_neg (by omega)]

theorem off_y : ∀ (d : Dev nD) (j : Fin 16), k0_off4 (yDev d) (rowW j) = k0_off3 d (rowW j) := by decide +kernel
theorem slice_same {off off' : Fin 2 → ℕ} (h : off = off') (p : ∀ a, off a + S128x4096.size a ≤ S4096x4096.size a) (p' : ∀ a, off' a + S128x4096.size a ≤ S4096x4096.size a) :
    oM.slice (Rect.unit (s := S4096x4096) off S128x4096.size p) (fun _ => rfl) = oM.slice (Rect.unit (s := S4096x4096) off' S128x4096.size p') (fun _ => rfl) := by
  subst h; rfl
/-- The half that the partner along y computes is the other half here. -/
theorem oFwd_yDev : oFwd (yDev d) j = oOwn d j := slice_same (off_y d j) _ _

/-- The chunk sent along x is the one received there; and that sent along y. -/
theorem pay_x : owns (xDev d : Thread nD τ) (rxS j) fullShare (sxX X d j) ⊢ dmaPay X (xDev d) 3 j := by
  show _ ⊢ owns (xDev d : Thread nD τ) (rxS j) fullShare (sxX X (xDev (xDev d)) j)
  rw [xDev_xDev]
theorem pay_y : owns (yDev d : Thread nD τ) (oOwn d j) fullShare (resX X d j) ⊢ dmaPay X (yDev d) 6 j := by
  show _ ⊢ owns (yDev d : Thread nD τ) (oFwd (yDev d) j) fullShare (resX X (yDev (yDev d)) j)
  rw [yDev_yDev, oFwd_yDev]

theorem some_owns {sp : Space} {s : Shape} {e : EltTy} (m : Memref sig .tc sp s e) :
    (some_ d m : sProp 𝕄) ⊢ iprop(∃ Y, owns (d : Thread nD τ) m fullShare Y) := .rfl

/-- The weights loaded. -/
theorem wp_weights {hl : gM.view.LoadsAt (Rect.unit (s := S1x4096) ![0, 0] S1x4096.size inb_S1x4096_S1x4096_0_0).toLoadRect} {k : Vec F S1x4096 .f32 → Pm F PUnit} :
    weights X d ⊢ iprop((weights X d -∗ Runs d (k (X.G d)) Q)
      -∗ Runs d (.op (.load gM (Rect.unit (s := S1x4096) ![0, 0] S1x4096.size inb_S1x4096_S1x4096_0_0).toLoadRect hl) k) Q) := by
  unfold weights owns
  iintro ⟨%f, %hf, H⟩ Hk
  iapply (wp_load 𝒱₀ (d : Thread nD τ) none Set.univ (S := gM.view.set) (q := fullShare) (f := f) (by rw [View.set_whole]; exact Finset.subset_univ _)) $$ H
  iintro H
  have e : gM.view.readAt (Elt F) (Rect.unit (s := S1x4096) ![0, 0] S1x4096.size inb_S1x4096_S1x4096_0_0).toLoadRect f = X.G d :=
    (Memref.readAt_unit_zero (Elt F) cc0_stg0_0 (by decide) inb_S1x4096_S1x4096_0_0 f).trans ((View.read_whole cc0_stg0_0 f).symm.trans hf)
  rw [e]
  iapply Hk
  iexists f
  isplitr; · ipureintro; exact hf
  iexact H

theorem run_thStart : StepRuns X d K b n (.thStart j) := by
  intro Q k
  show iprop(known X K ∗ ((ready d 1 j ∗ atPos ER (cell d 1 j) 0 ∅ 0) ∗ owns (d : Thread nD τ) (pTh d j) fullShare (thX X d j) ∗ some_ d (thS (s2 j)) ∗ emp) ∗ weights X d ∗ Owe d (owed d b n))
    ⊢ iprop((((sent d 1 j ∗ atPos ER (cell d 1 j) 0 ∅ 0) ∗ emp ∗ emp ∗ emp) ∗ weights X d ∗ Owe d (owed d b n) -∗ Runs d (k ⟨⟩) Q) -∗ Runs d _ Q)
  iintro ⟨#HK, ⟨⟨Hr, Hat⟩, Hs, Hd, -⟩, Hg, HO⟩ Hk
  iapply (wp_local d X K 1 j (pTh d j) (thS (s2 j)) (Y := thX X d j) rfl .rfl) $$ [Hr Hs Hd]
  · iframe HK Hs Hd Hr
  iintro Hc
  iapply Hk
  iframe Hc Hat Hg HO
  repeat' (first | iempintro | isplitr)

theorem run_mineStart : StepRuns X d K b n (.mineStart j) := by
  intro Q k
  show iprop(known X K ∗ ((ready d 0 j ∗ atPos ER (cell d 0 j) 0 ∅ 0) ∗ owns (d : Thread nD τ) (pMine d j) fullShare (mineX X d j) ∗ some_ d (mineS (s2 j)) ∗ emp) ∗ weights X d ∗ Owe d (owed d b n))
    ⊢ iprop((((sent d 0 j ∗ atPos ER (cell d 0 j) 0 ∅ 0) ∗ emp ∗ emp ∗ emp) ∗ weights X d ∗ Owe d (owed d b n) -∗ Runs d (k ⟨⟩) Q) -∗ Runs d _ Q)
  iintro ⟨#HK, ⟨⟨Hr, Hat⟩, Hs, Hd, -⟩, Hg, HO⟩ Hk
  iapply (wp_local d X K 0 j (pMine d j) (mineS (s2 j)) (Y := mineX X d j) rfl .rfl) $$ [Hr Hs Hd]
  · iframe HK Hs Hd Hr
  iintro Hc
  iapply Hk
  iframe Hc Hat Hg HO
  repeat' (first | iempintro | isplitr)

theorem run_outStart : StepRuns X d K b n (.outStart j) := by
  intro Q k
  show iprop(known X K ∗ ((ready d 4 j ∗ atPos ER (cell d 4 j) 0 ∅ 0) ∗ stRes X d (s4 j) (j.val + 2) ∗ some_ d (oOwn d j) ∗ emp) ∗ weights X d ∗ Owe d (owed d b n))
    ⊢ iprop((((sent d 4 j ∗ atPos ER (cell d 4 j) 0 ∅ 0) ∗ stRes X d (s4 j) (j.val + 16 + 2) ∗ emp ∗ emp) ∗ weights X d ∗ Owe d (owed d b n) -∗ Runs d (k ⟨⟩) Q) -∗ Runs d _ Q)
  rw [stRes_full, stRes_right]
  iintro ⟨#HK, ⟨⟨Hr, Hat⟩, Hs, Hd, -⟩, Hg, HO⟩ Hk
  ihave Hs := (owns_halves (d : Thread nD τ) (stS (s4 j)) fullShare (resX X d j)).1 $$ Hs
  icases Hs with ⟨Hs, Hright⟩
  iapply (wp_local d X K 4 j (stS (s4 j)) (oOwn d j) (Y := resX X d j) rfl .rfl) $$ [Hr Hs Hd]
  · iframe HK Hs Hd Hr
  iintro Hc
  iapply Hk
  iframe Hc Hat Hright Hg HO
  repeat' (first | iempintro | isplitr)

theorem run_thWait : StepRuns X d K b n (.thWait j) := by
  intro Q k
  show iprop(known X K ∗ ((sent d 1 j ∗ atPos ER (cell d 1 j) 0 ∅ 0) ∗ emp ∗ emp ∗ emp) ∗ weights X d ∗ Owe d (owed d b n))
    ⊢ iprop(((atPos ER (cell d 1 j) (0 + 1) ∅ 0 ∗ owns (d : Thread nD τ) (pTh d j) fullShare (thX X d j) ∗ thRes X d (s2 j) (j.val + 2) ∗ emp) ∗ weights X d ∗ Owe d (owed d b n) -∗ Runs d (k ⟨⟩) Q) -∗ Runs d _ Q)
  rw [thRes_at]
  iintro ⟨#HK, ⟨⟨Hc, Hat⟩, -, -, -⟩, Hg, HO⟩ Hk
  iapply (wp_land d X K 1 j (pTh d j) (thS (s2 j)) rfl b n (fun _ => by show 0 < _; omega) (fun _ => by show 0 < _; omega)) $$ [Hc Hat HO]
  · iframe HK Hc Hat HO
  iintro ⟨Hp, Hat, HO⟩
  ihave Hp := (show dmaPay X d 1 j ⊢ iprop(owns (d : Thread nD τ) (thS (s2 j)) fullShare (thX X d j) ∗ owns (d : Thread nD τ) (pTh d j) fullShare (thX X d j)) from .rfl) $$ Hp
  icases Hp with ⟨Hp, Hs⟩
  iapply Hk
  iframe Hat Hs Hp Hg HO
  repeat' (first | iempintro | isplitr)

theorem run_mineWait : StepRuns X d K b n (.mineWait j) := by
  intro Q k
  show iprop(known X K ∗ ((sent d 0 j ∗ atPos ER (cell d 0 j) 0 ∅ 0) ∗ emp ∗ emp ∗ emp) ∗ weights X d ∗ Owe d (owed d b n))
    ⊢ iprop(((atPos ER (cell d 0 j) (0 + 1) ∅ 0 ∗ owns (d : Thread nD τ) (pMine d j) fullShare (mineX X d j) ∗ mineRes X d (s2 j) (j.val + 2) ∗ emp) ∗ weights X d ∗ Owe d (owed d b n) -∗ Runs d (k ⟨⟩) Q) -∗ Runs d _ Q)
  rw [mineRes_at]
  iintro ⟨#HK, ⟨⟨Hc, Hat⟩, -, -, -⟩, Hg, HO⟩ Hk
  iapply (wp_land d X K 0 j (pMine d j) (mineS (s2 j)) rfl b n (fun _ => by show 0 < _; omega) (fun _ => by show 0 < _; omega)) $$ [Hc Hat HO]
  · iframe HK Hc Hat HO
  iintro ⟨Hp, Hat, HO⟩
  ihave Hp := (show dmaPay X d 0 j ⊢ iprop(owns (d : Thread nD τ) (mineS (s2 j)) fullShare (mineX X d j) ∗ owns (d : Thread nD τ) (pMine d j) fullShare (mineX X d j)) from .rfl) $$ Hp
  icases Hp with ⟨Hp, Hs⟩
  iapply Hk
  iframe Hat Hs Hp Hg HO
  repeat' (first | iempintro | isplitr)

theorem run_sxWait : StepRuns X d K b n (.sxWait j) := by
  intro Q k
  show iprop(known X K ∗ ((sent d 2 j ∗ atPos ER (cell d 2 j) 0 ∅ 0) ∗ emp ∗ emp) ∗ weights X d ∗ Owe d (owed d b n))
    ⊢ iprop(((atPos ER (cell d 2 j) (0 + 1) ∅ 0 ∗ owns (d : Thread nD τ) (sxS j) fullShare (sxX X d j) ∗ emp) ∗ weights X d ∗ Owe d (owed d b n) -∗ Runs d (k ⟨⟩) Q) -∗ Runs d _ Q)
  iintro ⟨#HK, ⟨⟨Hc, Hat⟩, -, -⟩, Hg, HO⟩ Hk
  iapply (wp_land d X K 2 j (rxS j) (sxS j) rfl b n (fun _ => by show 0 < _; omega) (fun _ => by show 0 < _; omega)) $$ [Hc Hat HO]
  · iframe HK Hc Hat HO
  iintro ⟨Hp, Hat, HO⟩
  ihave Hp := (show dmaPay X d 2 j ⊢ owns (d : Thread nD τ) (sxS j) fullShare (sxX X d j) from .rfl) $$ Hp
  iapply Hk
  iframe Hat Hp Hg HO
  repeat' (first | iempintro | isplitr)

theorem run_rxWait (h : j.val < b) : StepRuns X d K b n (.rxWait j) := by
  intro Q k
  show iprop(known X K ∗ ((sent d 3 j ∗ atPos ER (cell d 3 j) 0 ∅ 0) ∗ emp ∗ emp) ∗ weights X d ∗ Owe d (owed d b n))
    ⊢ iprop(((atPos ER (cell d 3 j) (0 + 1) ∅ 0 ∗ owns (d : Thread nD τ) (rxS j) fullShare (rxX X d j) ∗ emp) ∗ weights X d ∗ Owe d (owed d b n) -∗ Runs d (k ⟨⟩) Q) -∗ Runs d _ Q)
  iintro ⟨#HK, ⟨⟨Hc, Hat⟩, -, -⟩, Hg, HO⟩ Hk
  iapply (wp_land d X K 3 j (sxS j) (rxS j) rfl b n (fun _ => by show 2 + j.val < _; omega) (fun _ => by show 2 + j.val < _; omega)) $$ [Hc Hat HO]
  · iframe HK Hc Hat HO
  iintro ⟨Hp, Hat, HO⟩
  ihave Hp := (show dmaPay X d 3 j ⊢ owns (d : Thread nD τ) (rxS j) fullShare (rxX X d j) from .rfl) $$ Hp
  iapply Hk
  iframe Hat Hp Hg HO
  repeat' (first | iempintro | isplitr)

theorem run_outWait : StepRuns X d K b n (.outWait j) := by
  intro Q k
  show iprop(known X K ∗ ((sent d 4 j ∗ atPos ER (cell d 4 j) 0 ∅ 0) ∗ emp ∗ emp ∗ emp) ∗ weights X d ∗ Owe d (owed d b n))
    ⊢ iprop(((atPos ER (cell d 4 j) (0 + 1) ∅ 0 ∗ stRes X d (s4 j) (j.val + 32 + 2) ∗ owns (d : Thread nD τ) (oOwn d j) fullShare (resX X d j) ∗ emp) ∗ weights X d ∗ Owe d (owed d b n) -∗ Runs d (k ⟨⟩) Q) -∗ Runs d _ Q)
  rw [stRes_left]
  iintro ⟨#HK, ⟨⟨Hc, Hat⟩, -, -, -⟩, Hg, HO⟩ Hk
  iapply (wp_land d X K 4 j (stS (s4 j)) (oOwn d j) rfl b n (fun _ => by show 0 < _; omega) (fun _ => by show 0 < _; omega)) $$ [Hc Hat HO]
  · iframe HK Hc Hat HO
  iintro ⟨Hp, Hat, HO⟩
  ihave Hp := (show dmaPay X d 4 j ⊢ iprop(owns (d : Thread nD τ) (oOwn d j) fullShare (resX X d j) ∗ owns (d : Thread nD τ) (stS (s4 j)) fullShare.left (resX X d j)) from .rfl) $$ Hp
  icases Hp with ⟨Hp, Hl⟩
  iapply Hk
  iframe Hat Hp Hg HO Hl
  repeat' (first | iempintro | isplitr)

theorem run_yWait : StepRuns X d K b n (.yWait j) := by
  intro Q k
  show iprop(known X K ∗ ((sent d 5 j ∗ atPos ER (cell d 5 j) 0 ∅ 0) ∗ stRes X d (s4 j) (j.val + 32 + 2) ∗ emp) ∗ weights X d ∗ Owe d (owed d b n))
    ⊢ iprop(((atPos ER (cell d 5 j) (0 + 1) ∅ 0 ∗ some_ d (stS (s4 j)) ∗ emp) ∗ weights X d ∗ Owe d (owed d b n) -∗ Runs d (k ⟨⟩) Q) -∗ Runs d _ Q)
  rw [stRes_left]
  iintro ⟨#HK, ⟨⟨Hc, Hat⟩, Hl, -⟩, Hg, HO⟩ Hk
  iapply (wp_land d X K 5 j (oOwn d j) (stS (s4 j)) rfl b n (fun _ => by show 0 < _; omega) (fun _ => by show 0 < _; omega)) $$ [Hc Hat HO]
  · iframe HK Hc Hat HO
  iintro ⟨Hp, Hat, HO⟩
  ihave Hp := (show dmaPay X d 5 j ⊢ owns (d : Thread nD τ) (stS (s4 j)) fullShare.right (resX X d j) from .rfl) $$ Hp
  ihave Hp := (owns_halves (d : Thread nD τ) (stS (s4 j)) fullShare (resX X d j)).2 $$ [Hl Hp]
  · iframe Hl Hp
  ihave Hp := (some_intro d (stS (s4 j)) (resX X d j)) $$ Hp
  iapply Hk
  iframe Hat Hp Hg HO
  repeat' (first | iempintro | isplitr)

theorem run_fwdWait (hb : b = 16) (hn : n = 16) : StepRuns X d K b n (.fwdWait j) := by
  intro Q k
  show iprop(known X K ∗ ((sent d 6 j ∗ atPos ER (cell d 6 j) 0 ∅ 0) ∗ emp ∗ emp) ∗ weights X d ∗ Owe d (owed d b n))
    ⊢ iprop(((atPos ER (cell d 6 j) (0 + 1) ∅ 0 ∗ owns (d : Thread nD τ) (oFwd d j) fullShare (resX X (yDev d) j) ∗ emp) ∗ weights X d ∗ Owe d (owed d b n) -∗ Runs d (k ⟨⟩) Q) -∗ Runs d _ Q)
  iintro ⟨#HK, ⟨⟨Hc, Hat⟩, -, -⟩, Hg, HO⟩ Hk
  iapply (wp_land d X K 6 j (stS (s4 j)) (oFwd d j) rfl b n (fun h => by omega) (fun h => by omega)) $$ [Hc Hat HO]
  · iframe HK Hc Hat HO
  iintro ⟨Hp, Hat, HO⟩
  ihave Hp := (show dmaPay X d 6 j ⊢ owns (d : Thread nD τ) (oFwd d j) fullShare (resX X (yDev d) j) from .rfl) $$ Hp
  iapply Hk
  iframe Hat Hp Hg HO
  repeat' (first | iempintro | isplitr)

theorem run_sxSend (h : b = j.val) : StepRuns X d K b n (.sxSend j) := by
  subst h
  intro Q k
  show iprop(known X K ∗ ((ready d 2 j ∗ atPos ER (cell d 2 j) 0 ∅ 0) ∗ (some_ (xDev d) (rxS j) ∗ ready (xDev d) 3 j) ∗ owns (d : Thread nD τ) (sxS j) fullShare (sxX X d j) ∗ emp) ∗ weights X d ∗ Owe d (owed d j.val n))
    ⊢ iprop((((sent d 2 j ∗ atPos ER (cell d 2 j) 0 ∅ 0) ∗ emp ∗ emp ∗ emp) ∗ weights X d ∗ Owe d (owed d (j.val + 1) n) -∗ Runs d (k ⟨⟩) Q) -∗ Runs d _ Q)
  iintro ⟨#HK, ⟨⟨Hr, Hat⟩, ⟨Hd, HrR⟩, Hs, -⟩, Hg, HO⟩ Hk
  iapply (wp_remote d X K 2 j (xDev d) 3 (sxS j) (rxS j) (q := fullShare) (Y := sxX X d j) rfl rfl .rfl (pay_x X d j)
    (O₀ := owed d j.val n) (O := owed d (j.val + 1) n) (owed_x d j n) (by routes)) $$ [Hr Hs Hd HrR HO]
  · iframe HK Hs Hd Hr HrR HO
  iintro ⟨Hc, HO⟩
  iapply Hk
  iframe Hc Hat Hg HO
  repeat' (first | iempintro | isplitr)

theorem run_ySend (h : n = j.val) : StepRuns X d K b n (.ySend j) := by
  subst h
  intro Q k
  show iprop(known X K ∗ ((ready d 5 j ∗ atPos ER (cell d 5 j) 0 ∅ 0) ∗ (some_ (yDev d) (oOwn d j) ∗ ready (yDev d) 6 j) ∗ stRes X d (s4 j) (j.val + 16 + 2) ∗ emp) ∗ weights X d ∗ Owe d (owed d b j.val))
    ⊢ iprop((((sent d 5 j ∗ atPos ER (cell d 5 j) 0 ∅ 0) ∗ emp ∗ emp ∗ emp) ∗ weights X d ∗ Owe d (owed d b (j.val + 1)) -∗ Runs d (k ⟨⟩) Q) -∗ Runs d _ Q)
  rw [stRes_right]
  iintro ⟨#HK, ⟨⟨Hr, Hat⟩, ⟨Hd, HrR⟩, Hs, -⟩, Hg, HO⟩ Hk
  iapply (wp_remote d X K 5 j (yDev d) 6 (stS (s4 j)) (oOwn d j) (q := fullShare.right) (Y := resX X d j) rfl rfl .rfl (pay_y X d j)
    (O₀ := owed d b j.val) (O := owed d b (j.val + 1)) (owed_y d b j) (by routes)) $$ [Hr Hs Hd HrR HO]
  · iframe HK Hs Hd Hr HrR HO
  iintro ⟨Hc, HO⟩
  iapply Hk
  iframe Hc Hat Hg HO
  repeat' (first | iempintro | isplitr)

theorem run_sxFill : StepRuns X d K b n (.sxFill j) := by
  intro Q k
  show iprop(known X K ∗ (thRes X d (s2 j) (j.val + 2) ∗ some_ d (sxS j) ∗ emp) ∗ weights X d ∗ Owe d (owed d b n))
    ⊢ iprop(((some_ d (thS (s2 j)) ∗ owns (d : Thread nD τ) (sxS j) fullShare (sxX X d j) ∗ emp) ∗ weights X d ∗ Owe d (owed d b n) -∗ Runs d (k ⟨⟩) Q) -∗ Runs d _ Q)
  rw [thRes_at]
  iintro ⟨#HK, ⟨Ht, Hs, -⟩, Hg, HO⟩ Hk
  ihave Hs := (some_owns d (sxS j)) $$ Hs
  icases Hs with ⟨%Z, Hs⟩
  iapply (wp_slot_load d thM (R2 (s2 j)) (fun _ => rfl) squeezes_S1x128x4096_S128x4096) $$ Ht
  iintro Ht
  iapply (wp_slot_load d sxM (R16 j) (fun _ => rfl) squeezes_S1x128x4096_S128x4096) $$ Hs
  iintro Hs
  ihave Hs := (some_intro d (sxS j) Z) $$ Hs
  iapply (wp_slot_store d sxM (R16 j) (fun _ => rfl) squeezes_S1x128x4096_S128x4096) $$ Hs
  iintro Hs
  iapply Hk
  ihave Ht := (some_intro d (thS (s2 j)) (thX X d j)) $$ Ht
  ihave Hs := (show owns (d : Thread nD τ) (sxS j) fullShare (sq sqH (payX (un sqH (thX X d j)))) ⊢ owns (d : Thread nD τ) (sxS j) fullShare (sxX X d j) from .rfl) $$ Hs
  iframe Ht Hs Hg HO

theorem run_compute : StepRuns X d K b n (.compute j) := by
  intro Q k
  show iprop(known X K ∗ (mineRes X d (s2 j) (j.val + 2) ∗ owns (d : Thread nD τ) (rxS j) fullShare (rxX X d j) ∗ some_ d (stS (s4 j)) ∗ emp) ∗ weights X d ∗ Owe d (owed d b n))
    ⊢ iprop(((some_ d (mineS (s2 j)) ∗ owns (d : Thread nD τ) (rxS j) fullShare (rxX X d j) ∗ stRes X d (s4 j) (j.val + 2) ∗ emp) ∗ weights X d ∗ Owe d (owed d b n) -∗ Runs d (k ⟨⟩) Q) -∗ Runs d _ Q)
  rw [mineRes_at, stRes_full]
  iintro ⟨#HK, ⟨Hm, Hx, Hs, -⟩, Hg, HO⟩ Hk
  ihave Hs := (some_owns d (stS (s4 j))) $$ Hs
  icases Hs with ⟨%Z, Hs⟩
  iapply (wp_slot_load d mineM (R2 (s2 j)) (fun _ => rfl) squeezes_S1x128x4096_S128x4096) $$ Hm
  iintro Hm
  iapply (wp_slot_load d rxM (R16 j) (fun _ => rfl) squeezes_S1x128x4096_S128x4096) $$ Hx
  iintro Hx
  iapply (wp_weights X d) $$ Hg
  iintro Hg
  iapply (wp_slot_load d stM (R4 (s4 j)) (fun _ => rfl) squeezes_S1x128x4096_S128x4096) $$ Hs
  iintro Hs
  ihave Hs := (some_intro d (stS (s4 j)) Z) $$ Hs
  iapply (wp_slot_store d stM (R4 (s4 j)) (fun _ => rfl) squeezes_S1x128x4096_S128x4096) $$ Hs
  iintro Hs
  iapply Hk
  ihave Hm := (some_intro d (mineS (s2 j)) (mineX X d j)) $$ Hm
  ihave Hs := (show owns (d : Thread nD τ) (stS (s4 j)) fullShare (sq sqH (payC (un sqH (mineX X d j)) (un sqH (rxX X d j)) (X.G d))) ⊢ owns (d : Thread nD τ) (stS (s4 j)) fullShare (resX X d j) from .rfl) $$ Hs
  iframe Hm Hx Hs Hg HO

/-- Every step runs, from a state that lets it. -/
theorem runs_step (s : Step) (h : s.ok b n = true) : StepRuns X d K b n s := by
  cases s with
  | thStart j => exact run_thStart X d K b n j
  | thWait j => exact run_thWait X d K b n j
  | sxFill j => exact run_sxFill X d K b n j
  | sxSend j => exact run_sxSend X d K b n j (by simpa [Step.ok] using h)
  | sxWait j => exact run_sxWait X d K b n j
  | mineStart j => exact run_mineStart X d K b n j
  | mineWait j => exact run_mineWait X d K b n j
  | rxWait j => exact run_rxWait X d K b n j (by simpa [Step.ok] using h)
  | compute j => exact run_compute X d K b n j
  | outStart j => exact run_outStart X d K b n j
  | outWait j => exact run_outWait X d K b n j
  | ySend j => exact run_ySend X d K b n j (by simpa [Step.ok] using h)
  | yWait j => exact run_yWait X d K b n j
  | fwdWait j =>
      have h' : b = 16 ∧ n = 16 := by simpa [Step.ok] using h
      exact run_fwdWait X d K b n j h'.1 h'.2

/-- A list of steps runs from a state to the state it leads to. -/
theorem runs_all : ∀ (ss : List Step) (σ σ' : St), nextAll ss σ = some σ' →
    iprop(known X K ∗ held X d σ ∗ (held X d σ' -∗ Q ⟨⟩)) ⊢ Runs d (runSteps d ss) Q
  | [], σ, σ', h => by
      obtain rfl : σ = σ' := Option.some.inj h
      show _ ⊢ wp frame (wpE (defs₀ (F := F)) 𝒱₀ (d : Thread nD τ) none) Set.univ (.ret ⟨⟩) Q
      iintro ⟨-, H, Hk⟩
      rw [wp_ret]
      imodintro
      iapply Hk; iexact H
  | s :: ss, σ, σ', h => by
      obtain ⟨σ₁, h₁, h₂⟩ : ∃ σ₁, next s σ = some σ₁ ∧ nextAll ss σ₁ = some σ' := Option.bind_eq_some_iff.mp h
      unfold next at h₁
      split at h₁
      swap; · cases h₁
      rename_i hc
      obtain rfl := Option.some.inj h₁
      rw [Bool.and_eq_true, List.all_eq_true] at hc
      have ht := take_out X d σ.f (foot s) Finset.univ (fun _ _ => Finset.mem_univ _) (foot_nodup s) (fun x hx => by simpa using hc.1 x hx)
      have ih := runs_all ss _ σ' h₂
      show _ ⊢ Runs d ((s.prog d).bind fun _ => runSteps d ss) Q
      unfold held at ih ⊢
      iintro ⟨#HK, ⟨H, Hg, HO⟩, Hk⟩
      ihave H := ht $$ H
      icases H with ⟨Hb, Hrest⟩
      iapply (runs_step X d K σ.b σ.n s hc.2 Q (fun _ => runSteps d ss)) $$ [Hb Hg HO]
      · iframe HK Hb Hg HO
      iintro ⟨Ha, Hg, HO⟩
      ihave H := Hrest $$ Ha
      iapply ih
      iframe HK H Hg HO Hk

end Cert.KernelIdealProof

end
-- ==== Proof.IdealBuffers.lean ====
/- The buffers cut into the parts that the transfers move, and put together again. -/
module

public import proofs.«01_k».proof.Proof.IdealStepRules
public import Idealize.ShloMosaic.Lib.Ring
public import Idealize.ShloMosaic.Lib.ReshapeSlab

@[expose] public section

noncomputable section

namespace Cert.KernelIdealProof

open Cert.KernelIdeal
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD)

/-! ## A buffer as its slots -/

section Slots

variable {sp : CoreSpace} {sh s' : Shape} {e : EltTy} (M : Memref sig .tc sp sh e) {T : Type} [Fintype T] [DecidableEq T] (R : T → Rect sh)
  (hR : ∀ t a, (R t).stride a = 1) (h : ∀ t, (R t).shape.Squeezes s')
  (hd : ∀ t t', t ≠ t' → Disjoint (R t).set (R t').set)
  (hcov : (Finset.univ : Finset T).biUnion (fun t => (R t).set) = Finset.univ)

theorem owns_squeeze (R : Rect sh) (hR : ∀ a, R.stride a = 1) (h : R.shape.Squeezes s') (Y : R.shape.Idx → Elt F e) :
    owns (d : Thread nD τ) (M.slice R hR) fullShare Y ⊢ some_ d ((M.slice R hR).squeeze s' h) := by
  unfold some_ owns
  iintro ⟨%f, %hf, H⟩
  iexists sq h.numel_eq Y
  iexists f
  rw [slot_set]
  isplitr
  · ipureintro; rw [slot_read]; exact congrArg (sq h.numel_eq) hf
  iexact H

theorem set_cover (M : Memref sig .tc sp sh e) (R : T → Rect sh) (hcov : (Finset.univ : Finset T).biUnion (fun t => (R t).set) = Finset.univ) :
    (Finset.univ : Finset T).biUnion (fun t => (M.view.slice (R t)).set) = M.view.set := by
  ext i; constructor
  · intro hi
    obtain ⟨t, -, hi⟩ := Finset.mem_biUnion.mp hi
    exact View.set_slice_subset _ _ hi
  · intro hi
    obtain ⟨x, -, rfl⟩ := Finset.mem_map.mp hi
    obtain ⟨t, -, hx⟩ := Finset.mem_biUnion.mp (hcov.symm ▸ Finset.mem_univ x)
    exact Finset.mem_biUnion.mpr ⟨t, Finset.mem_univ _, by rw [View.set_slice]; exact Finset.mem_map_of_mem _ hx⟩

include hd hcov in
theorem slots_split (g : M.view.ty.Contents (Elt F)) :
    (M.view.loc (d : Thread nD τ) ↦[M.view.set]{fullShare} g : sProp 𝕄) ⊢ bigSep Finset.univ fun t => some_ d ((M.slice (R t) (hR t)).squeeze s' (h t)) := by
  rw [pointsTo_rects (d : Thread nD τ) M fullShare R hR hd hcov g]
  exact bigSep_mono fun t _ => owns_squeeze d M (R t) (hR t) (h t) _

include hd hcov in
theorem slots_join [Inhabited (M.view.ty.Contents (Elt F))] :
    (bigSep Finset.univ fun t => some_ d ((M.slice (R t) (hR t)).squeeze s' (h t)))
      ⊢ (iprop(∃ g : M.view.ty.Contents (Elt F), M.view.loc (d : Thread nD τ) ↦[M.view.set]{fullShare} g) : sProp 𝕄) := by
  have h1 : (bigSep Finset.univ fun t => some_ d ((M.slice (R t) (hR t)).squeeze s' (h t)))
      ⊢ (bigSep Finset.univ fun t => iprop(∃ g : M.view.ty.Contents (Elt F), M.view.loc (d : Thread nD τ) ↦[(M.view.slice (R t)).set]{fullShare} g) : sProp 𝕄) :=
    bigSep_mono fun t _ => (some_elim d _).trans (by rw [slot_set])
  have h2 := bigSep_exists_pi (M := 𝕄) (Finset.univ : Finset T) (fun t (g : M.view.ty.Contents (Elt F)) => (M.view.loc (d : Thread nD τ) ↦[(M.view.slice (R t)).set]{fullShare} g : sProp 𝕄))
  refine h1.trans (h2.trans ?_)
  iintro ⟨%fs, H⟩
  have h3 := pointsTo_biUnion_join (Ix := Unit) (Name := ℕ) (U := UU) (Lvl := ℕ) (ℓ := M.view.loc (d : Thread nD τ)) (q := fullShare) (Finset.univ : Finset T)
    (fun t => (M.view.slice (R t)).set) fs default
    (fun t _ t' _ htt => by rw [View.set_slice, View.set_slice]; exact (Finset.disjoint_map _).mpr (hd t t' htt))
  ihave H := h3 $$ H
  icases H with ⟨%g, -, H⟩
  rw [set_cover M R hcov]
  iexists g; iexact H

end Slots

/-! ## The small buffers -/

theorem dis2 (t t' : Fin 2) (h : t ≠ t') : Disjoint (R2 t).set (R2 t').set :=
  Ring.lead_disjoint (s := S2x128x4096) (0 : Fin 3) 1 (fun s : Fin 2 => ![s.val, 0, 0]) S1x128x4096.size inb2 (fun b => (Nat.one_mul _).symm) rfl t t' h
theorem dis4 (t t' : Fin 4) (h : t ≠ t') : Disjoint (R4 t).set (R4 t').set :=
  Ring.lead_disjoint (s := S4x128x4096) (0 : Fin 3) 1 (fun s : Fin 4 => ![s.val, 0, 0]) S1x128x4096.size inb4 (fun b => (Nat.one_mul _).symm) rfl t t' h
theorem dis16 (t t' : Fin 16) (h : t ≠ t') : Disjoint (R16 t).set (R16 t').set :=
  Ring.lead_disjoint (s := S16x128x4096) (0 : Fin 3) 1 (fun s : Fin 16 => ![s.val, 0, 0]) S1x128x4096.size inb16 (fun b => (Nat.one_mul _).symm) rfl t t' h
theorem cov2 : (Finset.univ : Finset (Fin 2)).biUnion (fun t => (R2 t).set) = Finset.univ :=
  Ring.lead_cover (s := S2x128x4096) (0 : Fin 3) 1 (fun s : Fin 2 => ![s.val, 0, 0]) S1x128x4096.size inb2 (fun b => (Nat.one_mul _).symm) (by decide) rfl (by decide) rfl
theorem cov4 : (Finset.univ : Finset (Fin 4)).biUnion (fun t => (R4 t).set) = Finset.univ :=
  Ring.lead_cover (s := S4x128x4096) (0 : Fin 3) 1 (fun s : Fin 4 => ![s.val, 0, 0]) S1x128x4096.size inb4 (fun b => (Nat.one_mul _).symm) (by decide) rfl (by decide) rfl
theorem cov16 : (Finset.univ : Finset (Fin 16)).biUnion (fun t => (R16 t).set) = Finset.univ :=
  Ring.lead_cover (s := S16x128x4096) (0 : Fin 3) 1 (fun s : Fin 16 => ![s.val, 0, 0]) S1x128x4096.size inb16 (fun b => (Nat.one_mul _).symm) (by decide) rfl (by decide) rfl

/-- A buffer held whole at contents not named. -/
abbrev any_ {sp : Space} {s : Shape} {e : EltTy} (m : Memref sig .tc sp s e) : sProp 𝕄 :=
  iprop(∃ g : m.view.ty.Contents (Elt F), m.view.loc (d : Thread nD τ) ↦[m.view.set]{fullShare} g)

theorem cut_mine : (any_ d mineM : sProp 𝕄) ⊢ bigSep Finset.univ fun s => some_ d (mineS s) := by
  iintro ⟨%g, H⟩; iapply (slots_split d mineM R2 (fun _ _ => rfl) (fun _ => squeezes_S1x128x4096_S128x4096) dis2 cov2 g) $$ H
theorem cut_th : (any_ d thM : sProp 𝕄) ⊢ bigSep Finset.univ fun s => some_ d (thS s) := by
  iintro ⟨%g, H⟩; iapply (slots_split d thM R2 (fun _ _ => rfl) (fun _ => squeezes_S1x128x4096_S128x4096) dis2 cov2 g) $$ H
theorem cut_sx : (any_ d sxM : sProp 𝕄) ⊢ bigSep Finset.univ fun s => some_ d (sxS s) := by
  iintro ⟨%g, H⟩; iapply (slots_split d sxM R16 (fun _ _ => rfl) (fun _ => squeezes_S1x128x4096_S128x4096) dis16 cov16 g) $$ H
theorem cut_rx : (any_ d rxM : sProp 𝕄) ⊢ bigSep Finset.univ fun s => some_ d (rxS s) := by
  iintro ⟨%g, H⟩; iapply (slots_split d rxM R16 (fun _ _ => rfl) (fun _ => squeezes_S1x128x4096_S128x4096) dis16 cov16 g) $$ H
theorem cut_st : (any_ d stM : sProp 𝕄) ⊢ bigSep Finset.univ fun s => some_ d (stS s) := by
  iintro ⟨%g, H⟩; iapply (slots_split d stM R4 (fun _ _ => rfl) (fun _ => squeezes_S1x128x4096_S128x4096) dis4 cov4 g) $$ H

theorem fuse_mine : (bigSep Finset.univ fun s => some_ d (mineS s)) ⊢ (any_ d mineM : sProp 𝕄) :=
  haveI : Inhabited (mineM.view.ty.Contents (Elt F)) := ⟨fun _ => Classical.arbitrary _⟩
  slots_join d mineM R2 (fun _ _ => rfl) (fun _ => squeezes_S1x128x4096_S128x4096) dis2 cov2
theorem fuse_th : (bigSep Finset.univ fun s => some_ d (thS s)) ⊢ (any_ d thM : sProp 𝕄) :=
  haveI : Inhabited (thM.view.ty.Contents (Elt F)) := ⟨fun _ => Classical.arbitrary _⟩
  slots_join d thM R2 (fun _ _ => rfl) (fun _ => squeezes_S1x128x4096_S128x4096) dis2 cov2
theorem fuse_sx : (bigSep Finset.univ fun s => some_ d (sxS s)) ⊢ (any_ d sxM : sProp 𝕄) :=
  haveI : Inhabited (sxM.view.ty.Contents (Elt F)) := ⟨fun _ => Classical.arbitrary _⟩
  slots_join d sxM R16 (fun _ _ => rfl) (fun _ => squeezes_S1x128x4096_S128x4096) dis16 cov16
theorem fuse_rx : (bigSep Finset.univ fun s => some_ d (rxS s)) ⊢ (any_ d rxM : sProp 𝕄) :=
  haveI : Inhabited (rxM.view.ty.Contents (Elt F)) := ⟨fun _ => Classical.arbitrary _⟩
  slots_join d rxM R16 (fun _ _ => rfl) (fun _ => squeezes_S1x128x4096_S128x4096) dis16 cov16
theorem fuse_st : (bigSep Finset.univ fun s => some_ d (stS s)) ⊢ (any_ d stM : sProp 𝕄) :=
  haveI : Inhabited (stM.view.ty.Contents (Elt F)) := ⟨fun _ => Classical.arbitrary _⟩
  slots_join d stM R4 (fun _ _ => rfl) (fun _ => squeezes_S1x128x4096_S128x4096) dis4 cov4

/-! ## The rows of `partial`, and the result -/

/-- Two blocks of rows, apart. -/
theorem rows_apart {s : Shape} {off off' size : Fin s.rank → ℕ} {p : ∀ a, off a + size a ≤ s.size a} {p' : ∀ a, off' a + size a ≤ s.size a} (a : Fin s.rank)
    (h : off a + size a ≤ off' a ∨ off' a + size a ≤ off a) : Disjoint (Rect.unit off size p).set (Rect.unit off' size p').set := by
  rw [Finset.disjoint_left]
  intro i hi hi'
  have h1 := (Rect.mem_set_unit.mp hi) a
  have h2 := (Rect.mem_set_unit.mp hi') a
  omega

/-- The first rows of the chunks read: those of the partner, then those kept. -/
def offP (t : Fin 16 ⊕ Fin 16) : Fin 2 → ℕ := match t with | .inl j => k0_off1 d (rowW j) | .inr j => k0_off2 d (rowW j)
theorem offP_inb : ∀ (t : Fin 16 ⊕ Fin 16) (a), offP d t a + S128x4096.size a ≤ S8192x4096.size a
  | .inl j => k0_off1_inb d j
  | .inr j => k0_off2_inb d j
def RP (t : Fin 16 ⊕ Fin 16) : Rect S8192x4096 := Rect.unit (s := S8192x4096) (offP d t) S128x4096.size (offP_inb d t)
/-- And of the chunks of the result: those computed here, then the others. -/
def offO (t : Fin 16 ⊕ Fin 16) : Fin 2 → ℕ := match t with | .inl j => k0_off3 d (rowW j) | .inr j => k0_off4 d (rowW j)
theorem offO_inb : ∀ (t : Fin 16 ⊕ Fin 16) (a), offO d t a + S128x4096.size a ≤ S4096x4096.size a
  | .inl j => k0_off3_inb d j
  | .inr j => k0_off4_inb d j
def RO (t : Fin 16 ⊕ Fin 16) : Rect S4096x4096 := Rect.unit (s := S4096x4096) (offO d t) S128x4096.size (offO_inb d t)

theorem offP_l (j : Fin 16) : offP d (.inl j) 0 = (2048 * ((d.val / 4) % 2) + 128 * j.val + 4096) - 4096 * (d.val / 8) := congrFun (k0_off1_eq d j) 0
theorem offP_r (j : Fin 16) : offP d (.inr j) 0 = 4096 * (d.val / 8) + 2048 * ((d.val / 4) % 2) + 128 * j.val := congrFun (k0_off2_eq d j) 0
theorem offO_l (j : Fin 16) : offO d (.inl j) 0 = 2048 * ((d.val / 4) % 2) + 128 * j.val := congrFun (k0_off3_eq d j) 0
theorem offO_r (j : Fin 16) : offO d (.inr j) 0 = (128 * j.val + 2048) - 2048 * ((d.val / 4) % 2) := congrFun (k0_off4_eq d j) 0
theorem offO_one (t : Fin 16 ⊕ Fin 16) : offO d t 1 = 0 := by
  rcases t with j | j
  · exact congrFun (k0_off3_eq d j) 1
  · exact congrFun (k0_off4_eq d j) 1

theorem disP (t t' : Fin 16 ⊕ Fin 16) (h : t ≠ t') : Disjoint (RP d t).set (RP d t').set := by
  refine rows_apart (s := S8192x4096) (0 : Fin 2) ?_
  have hd : d.val < 16 := d.isLt
  show offP d t 0 + 128 ≤ offP d t' 0 ∨ offP d t' 0 + 128 ≤ offP d t 0
  rcases t with j | j <;> rcases t' with i | i <;> simp only [offP_l, offP_r] <;> have hj := j.isLt <;> have hi := i.isLt
  · have : j.val ≠ i.val := fun e => h (congrArg Sum.inl (Fin.ext e)); omega
  · omega
  · omega
  · have : j.val ≠ i.val := fun e => h (congrArg Sum.inr (Fin.ext e)); omega
theorem disO (t t' : Fin 16 ⊕ Fin 16) (h : t ≠ t') : Disjoint (RO d t).set (RO d t').set := by
  refine rows_apart (s := S4096x4096) (0 : Fin 2) ?_
  have hd : d.val < 16 := d.isLt
  show offO d t 0 + 128 ≤ offO d t' 0 ∨ offO d t' 0 + 128 ≤ offO d t 0
  rcases t with j | j <;> rcases t' with i | i <;> simp only [offO_l, offO_r] <;> have hj := j.isLt <;> have hi := i.isLt
  · have : j.val ≠ i.val := fun e => h (congrArg Sum.inl (Fin.ext e)); omega
  · omega
  · omega
  · have : j.val ≠ i.val := fun e => h (congrArg Sum.inr (Fin.ext e)); omega

/-- The chunk of the result that a row is in. -/
def chunkO (r : ℕ) : Fin 16 ⊕ Fin 16 := if r / 2048 = (d.val / 4) % 2 then .inl ⟨r % 2048 / 128, by omega⟩ else .inr ⟨r % 2048 / 128, by omega⟩
theorem chunkO_mem (i : S4096x4096.Idx) : i ∈ (RO d (chunkO d (i 0).val)).set := by
  have h0 : (i 0).val < 4096 := (i 0).isLt
  have h1 : (i 1).val < 4096 := (i 1).isLt
  refine Rect.mem_set_unit.mpr fun a => ?_
  fin_cases a
  · show offO d (chunkO d (i 0).val) 0 ≤ (i 0).val ∧ (i 0).val < offO d (chunkO d (i 0).val) 0 + 128
    unfold chunkO
    split
    · rw [offO_l]; dsimp only; omega
    · rw [offO_r]; dsimp only; omega
  · show offO d (chunkO d (i 0).val) 1 ≤ (i 1).val ∧ (i 1).val < offO d (chunkO d (i 0).val) 1 + 4096
    rw [offO_one]; omega
theorem covO : (Finset.univ : Finset (Fin 16 ⊕ Fin 16)).biUnion (fun t => (RO d t).set) = Finset.univ := by
  ext i
  simp only [Finset.mem_biUnion, Finset.mem_univ, true_and, iff_true]
  exact ⟨_, chunkO_mem d i⟩

variable (X : Inp F)

/-- The result: each chunk where it belongs. -/
def chunkOut (t : Fin 16 ⊕ Fin 16) : Vec F S128x4096 .bf16 := match t with | .inl j => resX X d j | .inr j => resX X (yDev d) j
def outF : Vec F S4096x4096 .bf16 := Rect.glue (RO d) (covO d) (fun t => chunkOut d X t)

theorem outF_chunk (t : Fin 16 ⊕ Fin 16) (i : S128x4096.Idx) : outF d X ((RO d t).emb i) = chunkOut d X t i :=
  Rect.glue_emb (RO d) (covO d) (disO d) (fun t => chunkOut d X t) t i

/-- The rows of `partial` are the chunks read and the rest. -/
abbrev restP : sProp 𝕄 :=
  pM.view.loc (d : Thread nD τ) ↦[pM.view.set \ (Finset.univ : Finset (Fin 16 ⊕ Fin 16)).biUnion fun t => (pM.view.slice (RP d t)).set]{fullShare} X.P d
theorem cut_P : (pM.view.loc (d : Thread nD τ) ↦[pM.view.set]{fullShare} X.P d : sProp 𝕄)
    ⊣⊢ iprop(((bigSep Finset.univ fun j => owns (d : Thread nD τ) (pTh d j) fullShare (thX X d j))
      ∗ bigSep Finset.univ fun j => owns (d : Thread nD τ) (pMine d j) fullShare (mineX X d j)) ∗ restP d X) := by
  have hsub : ((Finset.univ : Finset (Fin 16 ⊕ Fin 16)).biUnion fun t => (pM.view.slice (RP d t)).set) ⊆ pM.view.set :=
    Finset.biUnion_subset.mpr fun t _ => View.set_slice_subset _ _
  have e : (pM.view.loc (d : Thread nD τ) ↦[(Finset.univ : Finset (Fin 16 ⊕ Fin 16)).biUnion fun t => (pM.view.slice (RP d t)).set]{fullShare} X.P d : sProp 𝕄)
      = iprop((bigSep Finset.univ fun j => owns (d : Thread nD τ) (pTh d j) fullShare (thX X d j))
        ∗ bigSep Finset.univ fun j => owns (d : Thread nD τ) (pMine d j) fullShare (mineX X d j)) := by
    rw [pointsTo_biUnion _ _ fun t _ t' _ htt => by rw [View.set_slice, View.set_slice]; exact (Finset.disjoint_map _).mpr (disP d t t' htt)]
    rw [← bigSep_congr (fun t _ => owns_slice_read (d : Thread nD τ) pM fullShare (RP d t) (fun _ => rfl) (X.P d)), bigSep_univ_sum]
    rfl
  rw [← e]
  exact pointsTo_split_subset hsub

/-- The result buffer at any contents is its chunks. -/
theorem cut_O : (any_ d oM : sProp 𝕄) ⊢ iprop((bigSep Finset.univ fun j => some_ d (oOwn d j)) ∗ bigSep Finset.univ fun j => some_ d (oFwd d j)) := by
  iintro ⟨%g, H⟩
  have h : (oM.view.loc (d : Thread nD τ) ↦[oM.view.set]{fullShare} g : sProp 𝕄)
      ⊢ iprop((bigSep Finset.univ fun j => some_ d (oOwn d j)) ∗ bigSep Finset.univ fun j => some_ d (oFwd d j)) := by
    rw [pointsTo_rects (d : Thread nD τ) oM fullShare (RO d) (fun _ _ => rfl) (disO d) (covO d) g, bigSep_univ_sum]
    exact BIClass.sep_mono (bigSep_mono fun j _ => some_intro d (oOwn d j) _) (bigSep_mono fun j _ => some_intro d (oFwd d j) _)
  iapply h $$ H

/-- The chunks of results are the result. -/
theorem fuse_O : iprop((bigSep Finset.univ fun j => owns (d : Thread nD τ) (oOwn d j) fullShare (resX X d j))
      ∗ bigSep Finset.univ fun j => owns (d : Thread nD τ) (oFwd d j) fullShare (resX X (yDev d) j))
    ⊢ (oM.view.loc (d : Thread nD τ) ↦[oM.view.set]{fullShare} outF d X : sProp 𝕄) := by
  rw [pointsTo_rects (d : Thread nD τ) oM fullShare (RO d) (fun _ _ => rfl) (disO d) (covO d) (outF d X), bigSep_univ_sum]
  have e (t : Fin 16 ⊕ Fin 16) : (fun j => oM.view.read (Elt F) (outF d X) ((RO d t).emb j)) = chunkOut d X t := by
    funext j; exact (congrFun (View.read_whole main_v3 (outF d X)) _).trans (outF_chunk d X t j)
  simp only [e]
  exact .rfl

end Cert.KernelIdealProof

end
-- ==== Proof.IdealBody.lean ====
/- The body of the kernel on one device: the barrier, the steps, and what is left at the end. -/
module

public import proofs.«01_k».proof.Proof.IdealBuffers
public import Idealize.ShloMosaic.Lib.Pipeline.Kit
public import Idealize.ShloMosaic.Harness.Basic

@[expose] public section

noncomputable section

namespace Cert.KernelIdealProof

open Cert.KernelIdeal
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The first state and the last -/

def f0 : Atom → ℕ
  | .inl (k, _) => if k = 3 ∨ k = 6 then 1 else 0
  | _ => 0
def fF : Atom → ℕ
  | .inl _ => 2
  | .inr (.inl (i, _)) => if i = 4 then 2 else if i.val < 6 then 1 else 0
  | _ => 0
/-- The states before the first step and after the last. -/
def σ0 : St := ⟨f0, 0, 0⟩
def σF : St := ⟨fF, 16, 16⟩

/-- The list of steps, run. -/
theorem steps_ok : ((nextAll steps σ0).map fun σ => decide (∀ a, σ.f a = fF a) && σ.b == 16 && σ.n == 16) = some true := by decide +kernel

theorem steps_end : nextAll steps σ0 = some σF := by
  have h := steps_ok
  obtain ⟨σ, hσ, h⟩ := Option.map_eq_some_iff.mp h
  rw [hσ]
  simp only [Bool.and_eq_true, decide_eq_true_eq, beq_iff_eq] at h
  obtain ⟨⟨hf, hb⟩, hn⟩ := h
  rcases σ with ⟨f, b, n⟩
  dsimp only at hf hb hn
  rw [hb, hn, funext hf]; rfl

/-! ## Families over seven and over eight -/

omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  BI.bigSep_univ_eq_bigSepL [0, 1, 2, 3, 4, 5, 6] (by decide) (by decide) Φ
omit [FloatOps F] in
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  BI.bigSep_univ_eq_bigSepL [0, 1, 2, 3, 4, 5, 6, 7] (by decide) (by decide) Φ

variable (X : Inp F) (d : Dev nD)

/-- A family over everything that has a status, apart. -/
theorem atoms (f : Atom → ℕ) : (bigSep Finset.univ fun a => res X d a (f a)) = iprop((bigSep Finset.univ fun kj : Fin 7 × Fin 16 => cellRes d kj.1 kj.2 (f (.inl kj)))
    ∗ ((bigSep Finset.univ fun j => chunkRes X d 0 j (f (aToX j))) ∗ (bigSep Finset.univ fun j => chunkRes X d 1 j (f (aToY j)))
      ∗ (bigSep Finset.univ fun j => chunkRes X d 2 j (f (aSx j))) ∗ (bigSep Finset.univ fun j => chunkRes X d 3 j (f (aRx j)))
      ∗ (bigSep Finset.univ fun j => chunkRes X d 4 j (f (aOwn j))) ∗ (bigSep Finset.univ fun j => chunkRes X d 5 j (f (aFwd j)))
      ∗ (bigSep Finset.univ fun j => chunkRes X d 6 j (f (aSrcTh j))) ∗ (bigSep Finset.univ fun j => chunkRes X d 7 j (f (aSrcMine j))))
    ∗ (bigSep Finset.univ fun s => mineRes X d s (f (aMine s))) ∗ (bigSep Finset.univ fun s => thRes X d s (f (aTh s)))
    ∗ (bigSep Finset.univ fun s => stRes X d s (f (aSt s)))) := by
  rw [bigSep_univ_sum, bigSep_univ_sum, bigSep_univ_sum, bigSep_univ_sum,
    bigSep_univ_prod (fun ij : Fin 8 × Fin 16 => res X d (.inr (.inl ij)) (f (.inr (.inl ij)))), eight]
  rfl

/-! ## The tokens -/

/-- The device whose semaphore of array `k` device `d` raises. -/
def tgt (k : Fin 7) : Dev nD := if k = 3 then xDev d else if k = 6 then yDev d else d
/-- The tokens of the transfers that device `d` starts. -/
def toks : sProp 𝕄 := bigSep Finset.univ fun kj : Fin 7 × Fin 16 => dutyTok ER (cell (tgt d kj.1) kj.1 kj.2) 0 false
/-- Its place on each of its own semaphores, and that they are open. -/
def ats (r : ℕ) : sProp 𝕄 := bigSep Finset.univ fun kj : Fin 7 × Fin 16 => atPos ER (cell d kj.1 kj.2) r ∅ 0
def opened : sProp 𝕄 := bigSep Finset.univ fun kj : Fin 7 × Fin 16 => reached ER (cell d kj.1 kj.2) 0
instance opened_persistent : BI.Persistent (opened (F := F) d) := by unfold opened; infer_instance
/-- The credits of the two families that the partners pay. -/
def dues : sProp 𝕄 := iprop((bigSep Finset.univ fun j => sent d 3 j) ∗ bigSep Finset.univ fun j => sent d 6 j)

theorem opened_at (k : Fin 7) : opened d ⊢ (bigSep Finset.univ fun j => reached ER (cell d k j) 0 : sProp 𝕄) := by
  unfold opened
  rw [bigSep_univ_prod]
  exact at_elim (fun k : Fin 7 => (bigSep Finset.univ fun j : Fin 16 => reached ER (cell d k j) 0 : sProp 𝕄)) k

theorem start_own (k : Fin 7) : iprop(opened d ∗ (bigSep Finset.univ fun j => dutyTok ER (cell d k j) 0 false) ∗ bigSep Finset.univ fun j => atPos ER (cell d k j) 0 ∅ 0)
    ⊢ (bigSep Finset.univ fun j => cellRes d k j 0 : sProp 𝕄) := by
  show _ ⊢ bigSep Finset.univ fun j => iprop((dutyTok ER (cell d k j) 0 false ∗ reached ER (cell d k j) 0) ∗ atPos ER (cell d k j) 0 ∅ 0)
  iintro ⟨#Ho, Ht, Ha⟩
  ihave #Hr := (opened_at d k) $$ Ho
  rw [bigSep_sep', bigSep_sep']
  isplitl [Ht]
  · isplitl [Ht]; · iexact Ht
    iexact Hr
  iexact Ha
theorem start_due (k : Fin 7) : iprop((bigSep Finset.univ fun j => sent d k j) ∗ bigSep Finset.univ fun j => atPos ER (cell d k j) 0 ∅ 0)
    ⊢ (bigSep Finset.univ fun j => cellRes d k j 1 : sProp 𝕄) := by
  show _ ⊢ bigSep Finset.univ fun j => iprop(sent d k j ∗ atPos ER (cell d k j) 0 ∅ 0)
  rw [bigSep_sep']

/-- What is held of the semaphores before the first step, and the tokens of the partners' semaphores. -/
theorem start_cells : iprop(opened d ∗ toks d ∗ ats d 0 ∗ dues d) ⊢ (iprop((bigSep Finset.univ fun kj : Fin 7 × Fin 16 => cellRes d kj.1 kj.2 (f0 (.inl kj)))
    ∗ (bigSep Finset.univ fun j => dutyTok ER (cell (xDev d) 3 j) 0 false) ∗ bigSep Finset.univ fun j => dutyTok ER (cell (yDev d) 6 j) 0 false) : sProp 𝕄) := by
  unfold toks ats dues
  rw [bigSep_univ_prod, bigSep_univ_prod, bigSep_univ_prod, seven, seven, seven]
  iintro ⟨#Ho, ⟨T0, T1, T2, T3, T4, T5, T6⟩, ⟨A0, A1, A2, A3, A4, A5, A6⟩, D3, D6⟩
  isplitr [T3 T6]
  · isplitl [T0 A0]; · iapply (start_own d 0); iframe Ho T0 A0
    isplitl [T1 A1]; · iapply (start_own d 1); iframe Ho T1 A1
    isplitl [T2 A2]; · iapply (start_own d 2); iframe Ho T2 A2
    isplitl [D3 A3]; · iapply (start_due d 3); iframe D3 A3
    isplitl [T4 A4]; · iapply (start_own d 4); iframe Ho T4 A4
    isplitl [T5 A5]; · iapply (start_own d 5); iframe Ho T5 A5
    iapply (start_due d 6); iframe D6 A6
  isplitl [T3]; · iexact T3
  iexact T6

/-! ## The barrier -/

/-- What device `d` holds for the barrier. -/
def barIn : sProp 𝕄 := iprop(atPos ER (barCell d) 0 ∅ 0 ∗ cred (tallyAt (barCell d) () 2)
  ∗ dutyTok ER (barCell (xDev d)) 0 false ∗ dutyTok ER (barCell (yDev d)) 0 true ∗ reached ER (barCell (xDev d)) 0 ∗ reached ER (barCell (yDev d)) 0)

theorem oFwd_eq (j : Fin 16) : oFwd d j = oOwn (yDev d) j := by
  have h := oFwd_yDev (yDev d) j
  rwa [yDev_yDev] at h

theorem lend_x : iprop(opened d ∗ bigSep Finset.univ fun j => some_ d (rxS j)) ⊢ (barPay (xDev d) false : sProp 𝕄) := by
  show _ ⊢ bigSep Finset.univ (fun j => lendX (xDev (xDev d)) j)
  rw [xDev_xDev]
  iintro ⟨#Ho, H⟩
  ihave #Hr := (opened_at d 3) $$ Ho
  unfold lendX
  rw [bigSep_sep']
  isplitl [H]; · iexact H
  iexact Hr
theorem lend_y : iprop(opened d ∗ bigSep Finset.univ fun j => some_ d (oFwd d j)) ⊢ (barPay (yDev d) true : sProp 𝕄) := by
  show _ ⊢ bigSep Finset.univ (fun j => lendY (yDev (yDev d)) j)
  rw [yDev_yDev]
  iintro ⟨#Ho, H⟩
  ihave #Hr := (opened_at d 6) $$ Ho
  unfold lendY
  rw [bigSep_sep']
  isplitl [H]
  · iapply (Entails.of_eq (bigSep_congr fun j _ => congrArg (some_ d) (oFwd_eq d j))) $$ H
  iexact Hr

theorem got_x : iprop(barPay d false ∗ bigSep Finset.univ fun j => dutyTok ER (cell (xDev d) 3 j) 0 false)
    ⊢ (bigSep Finset.univ fun j => chunkRes X d 0 j 0 : sProp 𝕄) := by
  show iprop(bigSep Finset.univ (fun j => lendX (xDev d) j) ∗ _) ⊢ _
  refine (Entails.of_eq (bigSep_sep' _ _ _).symm).trans (bigSep_mono fun j _ => ?_)
  show iprop((some_ (xDev d) (rxS j) ∗ reached ER (cell (xDev d) 3 j) 0) ∗ dutyTok ER (cell (xDev d) 3 j) 0 false)
    ⊢ iprop(some_ (xDev d) (rxS j) ∗ dutyTok ER (cell (xDev d) 3 j) 0 false ∗ reached ER (cell (xDev d) 3 j) 0)
  iintro ⟨⟨Hs, Hr⟩, Ht⟩
  iframe Hs Ht Hr
theorem got_y : iprop(barPay d true ∗ bigSep Finset.univ fun j => dutyTok ER (cell (yDev d) 6 j) 0 false)
    ⊢ (bigSep Finset.univ fun j => chunkRes X d 1 j 0 : sProp 𝕄) := by
  show iprop(bigSep Finset.univ (fun j => lendY (yDev d) j) ∗ _) ⊢ _
  refine (Entails.of_eq (bigSep_sep' _ _ _).symm).trans (bigSep_mono fun j _ => ?_)
  unfold lendY
  rw [yDev_yDev]
  show iprop((some_ (yDev d) (oOwn d j) ∗ reached ER (cell (yDev d) 6 j) 0) ∗ dutyTok ER (cell (yDev d) 6 j) 0 false)
    ⊢ iprop(some_ (yDev d) (oOwn d j) ∗ dutyTok ER (cell (yDev d) 6 j) 0 false ∗ reached ER (cell (yDev d) 6 j) 0)
  iintro ⟨⟨Hs, Hr⟩, Ht⟩
  iframe Hs Ht Hr

variable (K : GSem nD τ sig → ℕ) {Q : PUnit.{1} → sProp (MT nD τ sig Unit (Elt F) ℕ UU ℕ)}

theorem body_ops : body (F := F) = .op .deviceId fun c => .op (.semSignal (Dev.tc (xDev c)) barS ((1 : ℕ) : ℤ)) fun _ =>
    .op (.semSignal (Dev.tc (yDev c)) barS ((1 : ℕ) : ℤ)) fun _ => .op (.semWait barS ((2 : ℕ) : ℤ)) fun _ => runSteps c steps := rfl

theorem mayWait_bar : (levAts L lv : sProp 𝕄) ⊢ MayWait (d : Thread nD τ) (.reg barS) () (owed d 0 0) :=
  mayWait d _ 0 0 1 (le_refl 1) (fun _ => by decide) (fun _ => by decide)

/-- The barrier passed. -/
theorem run_barrier : iprop(known X K ∗ barIn d ∗ Owe d (O₀ d) ∗ barPay (xDev d) false ∗ barPay (yDev d) true
      ∗ (barPay d false ∗ barPay d true ∗ atPos ER (barCell d) 1 ∅ 0 ∗ Owe d (owed d 0 0) -∗ Runs d (runSteps d steps) Q))
    ⊢ Runs d body Q := by
  have hlev := @known_lev F _ X K
  rw [body_ops]
  unfold Runs barIn
  simp only [wp_deviceId]
  unfold Owe
  iintro ⟨#HK, ⟨Hat, Hc, Hx, Hy, #Hrx, #Hry⟩, ⟨%W, HO⟩, Hpx, Hpy, Hk⟩
  iapply (Rounds.wp_signal 𝒱₀ ER (Rd X) (d : Thread nD τ) none (dst := (xDev d : Thread nD τ)) (sem := barS) (r := 0) (d := false) (κ := K (barCell (xDev d)))
    (by rw [duties_bar]; decide) (amount_bar X (xDev d) false) () (owed d 0 0 + tallyAt (barCell (yDev d)) () 1) rfl) $$ [HO Hx Hpx]
  · isplitr; · iapply (known_bar (xDev d) X K); iexact HK
    isplitl [HO]; · iexact HO
    isplitl [Hx]; · iexact Hx
    isplitl [Hpx]; · iapply (Entails.of_eq (payload_bar X (xDev d) false).symm) $$ Hpx
    iexact Hrx
  iintro HO
  iapply (Rounds.wp_signal 𝒱₀ ER (Rd X) (d : Thread nD τ) none (dst := (yDev d : Thread nD τ)) (sem := barS) (r := 0) (d := true) (κ := K (barCell (yDev d)))
    (by rw [duties_bar]; decide) (amount_bar X (yDev d) true) () (owed d 0 0) rfl) $$ [HO Hy Hpy]
  · isplitr; · iapply (known_bar (yDev d) X K); iexact HK
    isplitl [HO]; · iexact HO
    isplitl [Hy]; · iexact Hy
    isplitl [Hpy]; · iapply (Entails.of_eq (payload_bar X (yDev d) true).symm) $$ Hpy
    iexact Hry
  iintro HO
  iapply (Rounds.wp_wait_rest_token 𝒱₀ ER (Rd X) (d : Thread nD τ) none (κ := K (barCell d)) (sm := .reg barS) (k' := 2)
    (wpE_semWait_eq 𝒱₀ (d : Thread nD τ) none Set.univ) (Set.mem_univ _) () (O := owed d 0 0) (W := W) (R := 0) (m := 0) (T := ∅)
    ((Nat.zero_add _).trans (expect_bar X d).symm)) $$ [Hc Hat HO]
  · isplitr; · iapply (known_bar d X K); iexact HK
    isplitl [Hc]; · iexact Hc
    isplitl [HO]; · iexact HO
    isplitr
    · iapply (hlev.trans (mayWait_bar d)); iexact HK
    iexact Hat
  iintro ⟨HO, Hat, -, Hp⟩
  ihave Hp := (Entails.of_eq (rest_bar X d)) $$ Hp
  icases Hp with ⟨Hf, Ht⟩
  iapply Hk
  isplitl [Hf]; · iexact Hf
  isplitl [Ht]; · iexact Ht
  isplitl [Hat]; · iexact Hat
  iexists _; iexact HO

/-! ## The body -/

/-- The small buffers, whatever they hold. -/
def scratch : sProp 𝕄 := iprop(any_ d mineM ∗ any_ d thM ∗ any_ d sxM ∗ any_ d rxM ∗ any_ d stM)
/-- The rows of `partial`. -/
def rowsP : sProp 𝕄 := pM.view.loc (d : Thread nD τ) ↦[pM.view.set]{fullShare} X.P d
/-- The result, as it ends. -/
def result : sProp 𝕄 := oM.view.loc (d : Thread nD τ) ↦[oM.view.set]{fullShare} outF d X

/-- What the semaphores leave at the end. -/
def closed : sProp 𝕄 := iprop((bigSep Finset.univ fun kj : Fin 7 × Fin 16 => semVal (cell d kj.1 kj.2) 0) ∗ semVal (barCell d) 0)

theorem close_cells : iprop(known X K ∗ ats d 1 ∗ atPos ER (barCell d) 1 ∅ 0) ⊢ (|={Set.univ}=> closed d : sProp 𝕄) := by
  have h1 := cells_close ER (Rd X) (Finset.univ : Finset (Fin 7 × Fin 16)) (fun kj => cell d kj.1 kj.2) (fun kj => K (cell d kj.1 kj.2)) (Es := Set.univ)
    (fun _ _ => Set.mem_univ _) (fun _ _ h => h) (fun _ => 1) (fun kj _ r hr => duties_later X _ r hr)
  have h2 := cell_close ER (Rd X) (g := barCell d) (κ := K (barCell d)) (Es := Set.univ) (Set.mem_univ _) (fun h => h) (R := 1) (fun r hr => duties_later X _ r hr)
  rw [bigSep_sep'] at h1
  have hk : known X K ⊢ bigSep Finset.univ fun kj : Fin 7 × Fin 16 => cellInv ER (Rd X) (K (cell d kj.1 kj.2)) (cell d kj.1 kj.2) := by
    unfold known
    iintro ⟨H, -, -⟩
    iapply (at_elim (fun d : Dev nD => bigSep Finset.univ fun kj : Fin 7 × Fin 16 => cellInv ER (Rd X) (K (cell d kj.1 kj.2)) (cell d kj.1 kj.2)) d) $$ H
  unfold ats closed
  iintro ⟨#HK, Ha, Hb⟩
  imod h1 $$ [Ha] with H1
  · isplitr; · iapply hk; iexact HK
    iexact Ha
  imod h2 $$ [Hb] with H2
  · isplitr; · iapply (known_bar d X K); iexact HK
    iexact Hb
  imodintro
  isplitl [H1]; · iexact H1
  iexact H2

omit [FloatOps F] in
theorem nothing : (iprop(emp) : sProp 𝕄) ⊢ bigSep Finset.univ (fun _ : Fin 16 => (iprop(emp) : sProp 𝕄)) := Entails.of_eq (bigSep_emp_const _).symm

/-- What is held after the last step. -/
theorem held_end : held X d σF ⊢ iprop(ats d 1 ∗ ((bigSep Finset.univ fun j => owns (d : Thread nD τ) (sxS j) fullShare (sxX X d j))
      ∗ (bigSep Finset.univ fun j => owns (d : Thread nD τ) (rxS j) fullShare (rxX X d j))
      ∗ (bigSep Finset.univ fun j => owns (d : Thread nD τ) (oOwn d j) fullShare (resX X d j))
      ∗ (bigSep Finset.univ fun j => owns (d : Thread nD τ) (oFwd d j) fullShare (resX X (yDev d) j))
      ∗ (bigSep Finset.univ fun j => owns (d : Thread nD τ) (pTh d j) fullShare (thX X d j))
      ∗ (bigSep Finset.univ fun j => owns (d : Thread nD τ) (pMine d j) fullShare (mineX X d j)))
    ∗ ((bigSep Finset.univ fun s => some_ d (mineS s)) ∗ (bigSep Finset.univ fun s => some_ d (thS s)) ∗ (bigSep Finset.univ fun s => some_ d (stS s)))
    ∗ weights X d ∗ Owe d 0) := by
  unfold held
  rw [atoms, show owed d σF.b σF.n = 0 from owed_end d]
  iintro ⟨⟨HC, ⟨-, -, M2, M3, Hown, Hfwd, Hth, Hmine⟩, M0, M1, M4⟩, HW, Howe⟩
  isplitl [HC]; · iapply (show (bigSep Finset.univ fun kj : Fin 7 × Fin 16 => cellRes d kj.1 kj.2 (σF.f (.inl kj)) : sProp 𝕄) ⊢ ats d 1 from .rfl) $$ HC
  isplitl [M2 M3 Hown Hfwd Hth Hmine]
  · isplitl [M2]; · iexact M2
    isplitl [M3]; · iexact M3
    isplitl [Hown]; · iexact Hown
    isplitl [Hfwd]; · iexact Hfwd
    isplitl [Hth]; · iexact Hth
    iexact Hmine
  isplitl [M0 M1 M4]
  · isplitl [M0]; · iapply (show (bigSep Finset.univ fun s => mineRes X d s (σF.f (aMine s)) : sProp 𝕄) ⊢ bigSep Finset.univ fun s => some_ d (mineS s) from .rfl) $$ M0
    isplitl [M1]; · iapply (show (bigSep Finset.univ fun s => thRes X d s (σF.f (aTh s)) : sProp 𝕄) ⊢ bigSep Finset.univ fun s => some_ d (thS s) from .rfl) $$ M1
    iapply (show (bigSep Finset.univ fun s => stRes X d s (σF.f (aSt s)) : sProp 𝕄) ⊢ bigSep Finset.univ fun s => some_ d (stS s) from .rfl) $$ M4
  isplitl [HW]; · iexact HW
  iexact Howe

/-- The body, from what the launch hands a device to what it hands back. -/
theorem run_body : iprop(known X K ∗ (scratch d ∗ rowsP X d ∗ any_ d oM ∗ weights X d) ∗ (opened d ∗ toks d ∗ ats d 0 ∗ dues d ∗ barIn d) ∗ Owe d (O₀ d)
      ∗ ((scratch d ∗ rowsP X d ∗ result X d ∗ weights X d) ∗ closed d ∗ Owe d 0 -∗ Q ⟨⟩))
    ⊢ Runs d body Q := by
  unfold scratch rowsP result
  iintro ⟨#HK, ⟨⟨M0, M1, M2, M3, M4⟩, HP, HO, HW⟩, ⟨#Hop, HT, HA, HD, HB⟩, Howe, Hk⟩
  ihave M0 := (cut_mine d) $$ M0
  ihave M1 := (cut_th d) $$ M1
  ihave M2 := (cut_sx d) $$ M2
  ihave M3 := (cut_rx d) $$ M3
  ihave M4 := (cut_st d) $$ M4
  ihave HP := ((cut_P d X).1) $$ HP
  icases HP with ⟨⟨Hth, Hmine⟩, Hrest⟩
  ihave HO := (cut_O d) $$ HO
  icases HO with ⟨Hown, Hfwd⟩
  ihave HC := (start_cells d) $$ [HT HA HD]
  · isplitr; · iexact Hop
    iframe HT HA HD
  icases HC with ⟨HC, T3, T6⟩
  ihave Hpx := (lend_x d) $$ [M3]
  · isplitr; · iexact Hop
    iexact M3
  ihave Hpy := (lend_y d) $$ [Hfwd]
  · isplitr; · iexact Hop
    iexact Hfwd
  iapply (run_barrier X d K)
  isplitr; · iexact HK
  isplitl [HB]; · iexact HB
  isplitl [Howe]; · iexact Howe
  isplitl [Hpx]; · iexact Hpx
  isplitl [Hpy]; · iexact Hpy
  iintro ⟨Hpx, Hpy, Hbar, Howe⟩
  ihave Hgx := (got_x X d) $$ [Hpx T3]
  · iframe Hpx T3
  ihave Hgy := (got_y X d) $$ [Hpy T6]
  · iframe Hpy T6
  iapply (wp_fupd frame (wpE (defs₀ (F := F)) 𝒱₀ (d : Thread nD τ) none) Set.univ (runSteps d steps) Q)
  iapply (runs_all X d K steps σ0 σF steps_end)
  isplitr; · iexact HK
  isplitl [HC Hgx Hgy M0 M1 M2 M4 Hth Hmine Hown HW Howe]
  · unfold held
    rw [atoms]
    isplitl [HC Hgx Hgy M0 M1 M2 M4 Hth Hmine Hown]
    · isplitl [HC]; · iexact HC
      isplitl [Hgx Hgy M2 Hth Hmine Hown]
      · isplitl [Hgx]; · iexact Hgx
        isplitl [Hgy]; · iexact Hgy
        isplitl [M2]; · iexact M2
        isplitr; · iapply (nothing (F := F)); iempintro
        isplitl [Hown]; · iexact Hown
        isplitr; · iapply (nothing (F := F)); iempintro
        isplitl [Hth]; · iexact Hth
        iexact Hmine
      isplitl [M0]; · iexact M0
      isplitl [M1]; · iexact M1
      iexact M4
    isplitl [HW]; · iexact HW
    iexact Howe
  iintro H
  ihave H := (held_end X d) $$ H
  icases H with ⟨HC, ⟨M2, M3, Hown, Hfwd, Hth, Hmine⟩, ⟨M0, M1, M4⟩, HW, Howe⟩
  imod (close_cells X d K) $$ [HC Hbar] with Hcl
  · isplitr; · iexact HK
    isplitl [HC]; · iexact HC
    iexact Hbar
  imodintro
  iapply Hk
  isplitr [Hcl Howe]
  · isplitl [M0 M1 M2 M3 M4]
    · isplitl [M0]; · iapply (fuse_mine d) $$ M0
      isplitl [M1]; · iapply (fuse_th d) $$ M1
      isplitl [M2]
      · iapply (fuse_sx d)
        iapply (show (bigSep Finset.univ fun j => owns (d : Thread nD τ) (sxS j) fullShare (sxX X d j)) ⊢ (bigSep Finset.univ fun j => some_ d (sxS j) : sProp 𝕄) from bigSep_mono fun j _ => some_intro d (sxS j) _) $$ M2
      isplitl [M3]
      · iapply (fuse_rx d)
        iapply (show (bigSep Finset.univ fun j => owns (d : Thread nD τ) (rxS j) fullShare (rxX X d j)) ⊢ (bigSep Finset.univ fun j => some_ d (rxS j) : sProp 𝕄) from bigSep_mono fun j _ => some_intro d (rxS j) _) $$ M3
      iapply (fuse_st d) $$ M4
    isplitl [Hth Hmine Hrest]
    · iapply ((cut_P d X).2)
      isplitl [Hth Hmine]
      · isplitl [Hth]; · iexact Hth
        iexact Hmine
      iexact Hrest
    isplitl [Hown Hfwd]
    · iapply (fuse_O d X)
      isplitl [Hown]; · iexact Hown
      iexact Hfwd
    iexact HW
  isplitl [Hcl]; · iexact Hcl
  iexact Howe

end Cert.KernelIdealProof

end
-- ==== Proof.IdealRegion.lean ====
/- The call of the kernel as a region of @main: what it holds on entry and on exit, and that its body keeps to it. -/
module

public import proofs.«01_k».proof.Proof.IdealBody
public import proofs.«01_k».proof.Proof.Gen.KernelIdeal.Frame
public import Idealize.ShloMosaic.Lib.Pipeline.Regions
public import Idealize.ShloMosaic.Lib.Pipeline.RegionTalk

@[expose] public section

noncomputable section

namespace Cert.KernelIdealProof

open Cert.KernelIdeal
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The contents of the buffers -/

/-- At launch, where the kernel is called, and after it. -/
abbrev V₀ (c : Dev nD) : Valuation τ sig (Elt F) := fun b => m (c, b)
abbrev V₁ (c : Dev nD) : Valuation τ sig (Elt F) := StableHlo.after hostOps0 (V₀ m c)
/-- What the kernel reads: the rows of each device and the weights as staged. -/
def inp : Inp F := ⟨fun d => V₁ m d (Proc.devRef .tc main_v1), fun d => iblk m d 0 t0_0⟩
abbrev V₂ (c : Dev nD) : Valuation τ sig (Elt F) := Function.update (V₁ m c) (Proc.devRef .tc main_v3) (outF c (inp m))

/-! ## Entry and exit -/

/-- The kernel's own semaphores. -/
abbrev osem : Fin 7 × Fin 16 → SemLoc sig := fun kj => .dma (dsem kj.1 kj.2)

theorem dsem_inj {k k' : Fin 7} {j j' : Fin 16} (h : dsem k j = dsem k' j') : k = k' ∧ j = j' :=
  ⟨by rw [← kOf_dsem k j, h, kOf_dsem], by rw [← jOf_dsem k j, h, jOf_dsem]⟩

theorem osem_facts : Pipeline.OwnSemFacts spec0 osem where
  isScoped := by decide
  inj a b h := by
    obtain ⟨h1, h2⟩ := dsem_inj (SemLoc.dma.inj h)
    exact Prod.ext h1 h2
  disj := by decide

/-- The protocol as the kernel finds it. -/
def proto (c : Dev nD) : sProp 𝕄 := iprop((∃ K, known (inp m) K) ∗ (opened c ∗ toks c ∗ ats c 0 ∗ dues c ∗ barIn c))

def Φin (c : Dev nD) : sProp 𝕄 := iprop(proto m c ∗ scratch c ∗ rowsP (inp m) c ∗ any_ c oM ∗ ∃ r, prngReg c r)
def Φout (c : Dev nD) : sProp 𝕄 := iprop(closed c ∗ scratch c ∗ rowsP (inp m) c ∗ result (inp m) c ∗ ∃ r, prngReg c r)

def dat (c : Dev nD) : Pipeline.Dat τ (Elt F) Unit ℕ UU ℕ cfg0 c where
  A w := V m c (Pipeline.arrRef spec0 w)
  after w t := match w with
    | 0 => iblk m c 0 t
    | ⟨_ + 1, h⟩ => absurd h (Nat.not_lt.2 (Nat.le_add_left _ _))
  Φ t := if t.val = 0 then Φin m c else Φout m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun _ => dat m

/-- What the body of the call is. -/
theorem row_eq : defs₀ (F := F) .tc cfg0.body (cfg0.bodyArgs t0_0 (cfg0.slots t0_0)) = body :=
  (show defs₀ (F := F) .tc cfg0.body (cfg0.bodyArgs t0_0 (cfg0.slots t0_0)) = bodyAt0 t0_0 from by rfl).trans body_eq

theorem Φ_at (c : Dev nD) (t : Fin (cfg0.N + 1)) : (dat m c).Φ t = if t.val = 0 then Φin m c else Φout m c := rfl
theorem owed_at (c : Dev nD) (t : Fin (cfg0.N + 1)) : (dat m c).owed t = if t.val = 0 then O₀ c else 0 := rfl
theorem Φ_first (c : Dev nD) : (dat m c).Φ t0_0.castSucc = Φin m c := by rw [Φ_at]; exact if_pos rfl
theorem Φ_last (c : Dev nD) : (dat m c).Φ t0_0.succ = Φout m c := by rw [Φ_at]; exact if_neg (by rw [Fin.val_succ]; exact Nat.succ_ne_zero _)
theorem owed_first (c : Dev nD) : (dat m c).owed t0_0.castSucc = O₀ c := by rw [owed_at]; exact if_pos rfl
theorem owed_last (c : Dev nD) : (dat m c).owed t0_0.succ = 0 := by rw [owed_at]; exact if_neg (by rw [Fin.val_succ]; exact Nat.succ_ne_zero _)

theorem owe_in {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) : (Owe c O : sProp 𝕄) ⊢ (dat.owesAt () t : sProp 𝕄) := by
  unfold Owe Dat.owesAt Pipeline.owesWithin Dat.bound
  rw [h, hr]
  iintro ⟨%W, H⟩
  iexists W
  isplitr; · ipureintro; exact fun _ _ => Or.inl trivial
  iexact H
theorem owe_out {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ (Owe c O : sProp 𝕄) := by
  unfold Owe Dat.owesAt Pipeline.owesWithin
  rw [h]
  iintro ⟨%W, -, H⟩
  iexists W; iexact H

/-- The weights are in their staging buffer before the body, and after. -/
theorem staged (c : Dev nD) (d) : (dat m c).before 0 t0_0 d = iblk m c 0 t0_0 :=
  ((dat m c).before_in_eq_fetched 0 rfl (fun _ => rfl) (fun _ _ _ => rfl) (fun t => rfl) t0_0 d).trans rfl

theorem stage_in (c : Dev nD) (d) : (owns (c : Thread nD τ) ((cfg0.win 0).stage (cfg0.slots t0_0 0)) fullShare ((dat m c).before 0 t0_0 d) : sProp 𝕄) ⊢ weights (inp m) c := by
  rw [staged]
  exact .rfl
theorem stage_out (c : Dev nD) : (weights (inp m) c : sProp 𝕄) ⊢ owns (c : Thread nD τ) ((cfg0.win 0).stage (cfg0.slots t0_0 0)) fullShare ((dat m c).after 0 t0_0) := .rfl

/-- The body takes the entry state to the exit state. -/
theorem obligation (c : Dev nD) : BodyObligation (dat m c) defs₀ 𝒱₀ () Set.univ := fun t => by
  obtain rfl := fin_N0 t
  rw [bigSep_W0, bigSep_W0, Φ_first, Φ_last]
  rw [row_eq]
  unfold Φin proto
  iintro ⟨⟨⟨⟨%K, HK⟩, HG⟩, HS, HP, HO, Hr⟩, Howe, ⟨%d, Hw⟩⟩
  ihave Hw := (stage_in m c d) $$ Hw
  ihave Howe := (owe_out (dat m c) _ (O₀ c) (owed_first m c)) $$ Howe
  iapply (run_body (inp m) c K)
  isplitl [HK]; · iexact HK
  isplitl [HS HP HO Hw]
  · iframe HS HP HO Hw
  isplitl [HG]; · iexact HG
  isplitl [Howe]; · iexact Howe
  iintro ⟨⟨HS, HP, HO, Hw⟩, Hc, Howe⟩
  ihave Hw := (stage_out m c) $$ Hw
  ihave Howe := (owe_in (dat m c) t0_0.succ 0 (owed_last m c) rfl) $$ Howe
  unfold Φout
  iframe Hc HS HP HO Hr Howe Hw

/-! ## The buffers a device holds through @main -/

def bufs : Finset (DevRef τ sig) := (StableHlo.tcRefs τ sig).filter fun b => ¬ b.isScoped
abbrev arrs : Finset (DevRef τ sig) := Pipeline.arrRefs (τ := τ) spec0
/-- Those the pipeline does not stage; of these the two the body works on. -/
abbrev rest : Finset (DevRef τ sig) := bufs \ arrs
abbrev mine : Finset (DevRef τ sig) := {Proc.devRef .tc main_v1, Proc.devRef .tc main_v3}

theorem arrs_sub : arrs ⊆ bufs := by decide
theorem mine_sub : mine ⊆ rest := by decide

theorem bufs_held (c : Dev nD) (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl

theorem mine_held (c : Dev nD) (W : Valuation τ sig (Elt F)) : (StableHlo.held (c : Thread nD τ) mine W : sProp 𝕄)
    = iprop(((c : Thread nD τ).loc main_v1 ↦{fullShare} W (Proc.devRef .tc main_v1)) ∗ ((c : Thread nD τ).loc main_v3 ↦{fullShare} W (Proc.devRef .tc main_v3))) := by
  unfold StableHlo.held
  rw [BI.bigSep_eq_bigSepL_of_eq [Proc.devRef .tc main_v1, Proc.devRef .tc main_v3] (by decide) (by decide)]
  rfl

theorem rows_eq (c : Dev nD) : (rowsP (inp m) c : sProp 𝕄) = ((c : Thread nD τ).loc main_v1 ↦{fullShare} V₁ m c (Proc.devRef .tc main_v1)) := by
  unfold rowsP; rw [View.set_whole]; try rfl
theorem result_eq (c : Dev nD) : (result (inp m) c : sProp 𝕄) = ((c : Thread nD τ).loc main_v3 ↦{fullShare} outF c (inp m)) := by
  unfold result; rw [View.set_whole]; try rfl
theorem out_any (c : Dev nD) (f : Buf (Elt F) ((c : Thread nD τ).loc main_v3)) : ((c : Thread nD τ).loc main_v3 ↦{fullShare} f) ⊢ (any_ c oM : sProp 𝕄) := by
  iintro H
  iexists f
  rw [View.set_whole]
  iexact H

theorem scratch_eq (c : Dev nD) : (Pipeline.scopedRest (Ix := Unit) (Name := ℕ) (U := UU) (Lvl := ℕ) (Val := Elt F) spec0 c : sProp 𝕄) = scratch c := by
  rw [scopedRest0_eq]
  unfold scratch any_
  simp only [View.set_whole]

theorem V₂_out (c : Dev nD) : V₂ m c (Proc.devRef .tc main_v3) = outF c (inp m) := Function.update_self ..
theorem V₂_of_ne (c : Dev nD) (b : DevRef τ sig) (h : b ≠ Proc.devRef .tc main_v3) : V₂ m c b = V₁ m c b := Function.update_of_ne h ..

/-! ## The region -/

/-- What a device carries from launch to the call, and what it has of the protocol once its semaphores are open; what is left. -/
def Tk (c : Dev nD) : sProp 𝕄 :=
  iprop((∃ K : GSem nD τ sig → ℕ, (bigSep Finset.univ fun d : Dev nD => bigSep Finset.univ fun kj : Fin 7 × Fin 16 => cellInv ER (Rd (inp m)) (K (cell d kj.1 kj.2)) (cell d kj.1 kj.2))
      ∗ bigSep Finset.univ fun d : Dev nD => cellInv ER (Rd (inp m)) (K (barCell d)) (barCell d))
    ∗ (bigSep Finset.univ fun kj : Fin 7 × Fin 16 => openTok ER (cell c kj.1 kj.2)) ∗ toks c ∗ dues c ∗ barIn c)
def Yk (c : Dev nD) : sProp 𝕄 := semVal (barCell c) 0

theorem hopen (c : Dev nD) : iprop(Tk m c ∗ Pipeline.ownSems0 osem c ∗ levAts L lv) ⊢ (|={Set.univ}=> proto m c : sProp 𝕄) := by
  unfold Tk proto opened ats
  iintro ⟨⟨⟨%K, #Hc, #Hb⟩, Ho, Ht, Hd, HB⟩, Hs, #Hl⟩
  have hop := cells_open ER (Rd (inp m)) (Finset.univ : Finset (Fin 7 × Fin 16)) (fun kj => cell c kj.1 kj.2) (fun kj => K (cell c kj.1 kj.2)) (Es := Set.univ)
    (fun _ _ => Set.mem_univ _)
  rw [bigSep_sep', bigSep_sep'] at hop
  have hs : (Pipeline.ownSems0 osem c : sProp 𝕄) ⊢ bigSep Finset.univ fun kj : Fin 7 × Fin 16 => semVal (cell c kj.1 kj.2) 0 := .rfl
  imod hop $$ [Ho Hs] with ⟨Ha, Hr⟩
  · isplitr [Hs]
    · isplitr
      · iapply (at_elim (fun d : Dev nD => bigSep Finset.univ fun kj : Fin 7 × Fin 16 => cellInv ER (Rd (inp m)) (K (cell d kj.1 kj.2)) (cell d kj.1 kj.2)) c); iexact Hc
      · iexact Ho
    · iapply hs $$ Hs
  imodintro
  isplitr
  · iexists K
    unfold known
    isplitr; · iexact Hc
    isplitr; · iexact Hb
    iexact Hl
  iframe Hr Ht Ha Hd HB

theorem hin (c : Dev nD) : iprop(Pipeline.scopedRest (Pipeline.pin (pcfgs (F := F)) adm 0).spec c ∗ (∃ r, prngReg c r) ∗ StableHlo.held (c.tc : Thread nD τ) mine (V₁ m c) ∗ proto m c)
    ⊢ (pdats m 0 c).Φ 0 := by
  rw [show (pdats m 0 c).Φ 0 = Φin m c from Φ_first m c, mine_held]
  have hsc := Entails.of_eq (scratch_eq (F := F) c)
  unfold Φin
  rw [rows_eq]
  iintro ⟨Hs, Hr, ⟨HP, HO⟩, HK⟩
  ihave Hs := hsc $$ Hs
  ihave HO := (out_any c _) $$ HO
  iframe HK Hs HP HO Hr

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) mine (V₂ m c) ∗ Pipeline.ownSems0 osem c ∗ Yk c) := by
  rw [show (pdats m 0 c).Φ (Fin.last _) = Φout m c from Φ_last m c, mine_held, V₂_out, V₂_of_ne m c (Proc.devRef .tc main_v1) (by decide)]
  have hsc := Entails.of_eq (scratch_eq (F := F) c).symm
  unfold Φout closed Yk
  rw [rows_eq, result_eq]
  have hs : (bigSep Finset.univ fun kj : Fin 7 × Fin 16 => semVal (cell c kj.1 kj.2) 0) ⊢ (Pipeline.ownSems0 osem c : sProp 𝕄) := .rfl
  iintro ⟨⟨Hc, Hb⟩, Hs, HP, HO, Hr⟩
  ihave Hs := hsc $$ Hs
  ihave Hc := hs $$ Hc
  iframe Hs Hr HP HO Hc Hb

theorem stage_sem : ∀ (w : Fin 1) (s : Fin (spec0 w).nbuf), kOf ((spec0 w).sem s) ≠ 3 ∧ kOf ((spec0 w).sem s) ≠ 6 := by decide

theorem lv_bar (d : Dev nD) (u : Unit) : lv (barCell d) u = 1 := rfl
theorem cellLev_pos3 (j : Fin 16) : 0 < cellLev 3 j := by unfold cellLev; rw [if_pos rfl]; omega
theorem cellLev_pos6 (j : Fin 16) : 0 < cellLev 6 j := by unfold cellLev; rw [if_neg (by decide), if_pos rfl]; omega

theorem tally_pos {g g' : GSem nD τ sig} {u : Unit} {n : ℕ} (h : 0 < (tallyAt g' () n : CellTallies nD τ sig Unit) g u) : g = g' := by
  rw [tallyAt_apply] at h
  by_contra hn
  rw [if_neg (fun e => hn e.1)] at h
  exact absurd h (Nat.lt_irrefl 0)

theorem O₀_pos (c : Dev nD) {g : GSem nD τ sig} {u : Unit} (h : 0 < O₀ c g u) : u ∈ L g ∧ 0 < lv g u := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · rcases owed_pos c 0 0 h with ⟨j, -, e⟩ | ⟨j, -, e⟩
      · rw [e, L_tc, lv_cell]; exact ⟨Finset.mem_singleton_self _, cellLev_pos3 j⟩
      · rw [e, L_tc, lv_cell]; exact ⟨Finset.mem_singleton_self _, cellLev_pos6 j⟩
    · rw [tally_pos h, L_tc, lv_bar]; exact ⟨Finset.mem_singleton_self _, Nat.one_pos⟩
  · rw [tally_pos h, L_tc, lv_bar]; exact ⟨Finset.mem_singleton_self _, Nat.one_pos⟩

theorem cut_owed (c : Dev nD) (t : Fin (cfg0.N + 1)) (g : GSem nD τ sig) (u : Unit) (h : 0 < (dat m c).owed t g u) : u ∈ L g ∧ 0 < lv g u := by
  rw [owed_at] at h
  split at h
  · exact O₀_pos c h
  · exact absurd h (Nat.lt_irrefl 0)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    mine rest mine_sub launch0.toP rfl (fun c => (obligation m c).loose)
    (fun _ => 0) O₀ (fun c => (owed_first m c).trans (zero_add _).symm) (owed_last m) (fun _ => rfl) (fun c w => by fin_cases w; rfl)
    (V₁ m) (V₂ m) (fun c b hb => V₂_of_ne m c b fun e => (Finset.mem_sdiff.mp hb).2 (by rw [e]; decide))
    (Tk m) Yk (proto m) Yk (hopen m) (hin m) (hout m)
    (fun c => by iintro H; imodintro; iexact H)
    (fun _ => 0)
    ⟨fun c w s => by rw [show L _ = _ from L_tc c _]; exact Finset.mem_singleton_self _,
      fun c w s => le_of_eq ((if_neg (stage_sem w s).1).trans (if_neg (stage_sem w s).2)),
      fun c t g i h => cut_owed m c t g i h⟩
    (fun _ => iprop(emp))
    (fun c w => by fin_cases w; rfl)
    (fun c w => by
      fin_cases w
      exact ((dat m c).arrAt_in 0 rfl _).trans (V₂_of_ne m c (Proc.devRef .tc main_v2) (by decide)).symm)

end Cert.KernelIdealProof

end
-- ==== Proof.IdealLaunch.lean ====
/- The launch: the protocol's resources made and dealt, and the run of the whole program. -/
module

public import proofs.«01_k».proof.Proof.IdealRegion
public import Idealize.ShloMosaic.Lib.Pipeline.Regions
public import Idealize.ShloMosaic.Harness.Basic

@[expose] public section

noncomputable section

namespace Cert.KernelIdealProof

open Cert.KernelIdeal
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What rides beside the buffers -/

def ride (c : Dev nD) : sProp 𝕄 := iprop((Tk m c ∗ ∃ r, prngReg c r) ∗ Owe c (O₀ c))

theorem bufs_split (c : Dev nD) (W : Valuation τ sig (Elt F)) :
    (StableHlo.held (c : Thread nD τ) bufs W : sProp 𝕄) = iprop(StableHlo.held (c : Thread nD τ) arrs W ∗ StableHlo.held (c : Thread nD τ) rest W) :=
  StableHlo.held_sub_split (c : Thread nD τ) arrs_sub W

theorem reg_pre (c : Dev nD) : iprop(StableHlo.held (c : Thread nD τ) bufs (V₁ m c) ∗ ride m c) ⊢ (reg m).pre c := by
  show _ ⊢ iprop(StableHlo.held (c.tc : Thread nD τ) arrs (V₁ m c) ∗ (∃ r, prngReg c r)
    ∗ (StableHlo.held (c.tc : Thread nD τ) rest (V₁ m c) ∗ emp) ∗ Tk m c ∗ ∃ Wd, owes (c : Thread nD τ) (0 + O₀ c) Wd)
  rw [zero_add, bufs_split]
  unfold ride Owe
  iintro ⟨⟨Ha, Hr⟩, ⟨HT, Hp⟩, HO⟩
  iframe Ha Hp Hr HT HO

theorem reg_post (c : Dev nD) : (reg m).post c ⊢ iprop(StableHlo.held (c : Thread nD τ) bufs (V₂ m c) ∗ (semVal (barCell c) 0 ∗ Owe c 0)) := by
  show iprop(StableHlo.held (c.tc : Thread nD τ) arrs (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  rw [bufs_split]
  unfold Yk Owe
  iintro ⟨Ha, -, ⟨Hr, -⟩, Hb, HO⟩
  iframe Ha Hr Hb HO

theorem ops_sub : ∀ op ∈ (hostOps0 : List (HloOp τ sig (Elt F))), op.bufs ⊆ bufs := fun op h => by
  simp only [hostOps0, List.mem_cons, List.not_mem_nil, or_false] at h
  rcases h with rfl | rfl
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide

def host : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (ride m)

def segs : List (Pipeline.Seg (pcfgs (F := F)) adm (pdats m) () defs₀ 𝒱₀ L lv) := [.host (host m), .region (reg m)]

theorem main_eq (c : Dev nD) : main (F := F) c = Pipeline.Seg.run (segs m) := main_segs adm (pdats m) () 𝒱₀ L lv (host m) (reg m) rfl c

/-! ## The cells and the duties -/

def barEmb : Dev nD ↪ GSem nD τ sig := ⟨barCell, fun _ _ h => congrArg (fun g : GSem nD τ sig => g.1.1) h⟩
def ownEmb : Dev nD × (Fin 7 × Fin 16) ↪ GSem nD τ sig :=
  ⟨fun x => cell x.1 x.2.1 x.2.2, fun a b h => by
    obtain ⟨h1, h2⟩ := dsem_inj (SemLoc.dma.inj (congrArg Prod.snd h))
    exact Prod.ext (congrArg (fun g : GSem nD τ sig => g.1.1) h) (Prod.ext h1 h2)⟩
abbrev barCells : Finset (GSem nD τ sig) := Finset.univ.map barEmb
abbrev ownCells : Finset (GSem nD τ sig) := Finset.univ.map ownEmb

theorem own_ne_bar (d e : Dev nD) (k : Fin 7) (j : Fin 16) : cell d k j ≠ barCell e := fun h => by
  have h2 : (SemLoc.dma (dsem k j) : SemLoc sig) = .reg barS := congrArg Prod.snd h
  cases h2

theorem cells_disjoint : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact own_ne_bar _ _ _ _ h

/-- A duty for each of a device's own cells, two for its barrier. -/
def dutyAt : Dev nD × ((Fin 7 × Fin 16) ⊕ Bool) → GSem nD τ sig × ℕ × Bool
  | (d, .inl kj) => (cell d kj.1 kj.2, 0, false)
  | (d, .inr b) => (barCell d, 0, b)
theorem dutyAt_inj : Function.Injective dutyAt := by
  rintro ⟨d, kj | b⟩ ⟨d', kj' | b'⟩ h
  · have hc : cell d kj.1 kj.2 = cell d' kj'.1 kj'.2 := congrArg Prod.fst h
    have := ownEmb.injective (a₁ := (d, kj)) (a₂ := (d', kj')) hc
    rw [(Prod.mk.inj this).1, (Prod.mk.inj this).2]
  · exact absurd (congrArg Prod.fst h) (own_ne_bar _ _ _ _)
  · exact absurd (congrArg Prod.fst h).symm (own_ne_bar _ _ _ _)
  · have hc : barCell d = barCell d' := congrArg Prod.fst h
    have hb : b = b' := congrArg (fun t : GSem nD τ sig × ℕ × Bool => t.2.2) h
    rw [barEmb.injective hc, hb]
def duties : Finset (GSem nD τ sig × ℕ × Bool) := Finset.univ.map ⟨dutyAt, dutyAt_inj⟩

/-- Who pays a duty. -/
def payer (k : Fin 7) : Dev nD ≃ Dev nD := if k = 3 then xSwap else if k = 6 then ySwap else Equiv.refl _
theorem payer_apply (k : Fin 7) (d : Dev nD) : payer k d = tgt d k := by
  unfold payer tgt
  by_cases h3 : k = 3
  · rw [if_pos h3, if_pos h3]; rfl
  by_cases h6 : k = 6
  · rw [if_neg h3, if_neg h3, if_pos h6, if_pos h6]; rfl
  rw [if_neg h3, if_neg h3, if_neg h6, if_neg h6]; rfl

theorem swap {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), bigSep_univ_equiv (Equiv.prodComm J I), bigSep_univ_prod]
  rfl

theorem duties_dealt : bigSep duties (fun x => (dutyTok ER x.1 x.2.1 x.2.2 : sProp 𝕄))
    ⊢ iprop((bigSep Finset.univ fun d : Dev nD => toks d)
      ∗ (bigSep Finset.univ fun d : Dev nD => dutyTok ER (barCell (xDev d)) 0 false) ∗ bigSep Finset.univ fun d : Dev nD => dutyTok ER (barCell (yDev d)) 0 true) := by
  have h1 : (bigSep Finset.univ fun d : Dev nD => bigSep Finset.univ fun kj : Fin 7 × Fin 16 => (dutyTok ER (cell d kj.1 kj.2) 0 false : sProp 𝕄))
      = bigSep Finset.univ fun d : Dev nD => toks d := by
    unfold toks
    rw [swap, swap fun (d : Dev nD) (kj : Fin 7 × Fin 16) => (dutyTok ER (cell (tgt d kj.1) kj.1 kj.2) 0 false : sProp 𝕄)]
    refine bigSep_congr fun kj _ => ?_
    rw [bigSep_univ_equiv (payer kj.1)]
    exact bigSep_congr fun d _ => by rw [payer_apply]
  have h2 (b : Bool) (e : Dev nD ≃ Dev nD) : (bigSep Finset.univ fun d : Dev nD => (dutyTok ER (barCell d) 0 b : sProp 𝕄))
      = bigSep Finset.univ fun d : Dev nD => dutyTok ER (barCell (e d)) 0 b := bigSep_univ_equiv e _
  have h3 : bigSep duties (fun x => (dutyTok ER x.1 x.2.1 x.2.2 : sProp 𝕄))
      = bigSep Finset.univ fun d : Dev nD => iprop((bigSep Finset.univ fun kj : Fin 7 × Fin 16 => (dutyTok ER (cell d kj.1 kj.2) 0 false : sProp 𝕄))
        ∗ dutyTok ER (barCell d) 0 false ∗ dutyTok ER (barCell d) 0 true) := by
    unfold duties
    rw [bigSep_map, bigSep_univ_prod]
    refine bigSep_congr fun d _ => ?_
    rw [bigSep_univ_sum]
    simp only [Function.Embedding.coeFn_mk]
    rw [BI.bigSep_univ_eq_bigSepL [false, true] (by decide) (by decide) (fun b : Bool => (dutyTok ER (dutyAt (d, .inr b)).1 (dutyAt (d, .inr b)).2.1 (dutyAt (d, .inr b)).2.2 : sProp 𝕄))]
    rfl
  rw [h3, bigSep_sep', bigSep_sep', h1, h2 false xSwap, h2 true ySwap]
  exact .rfl

/-! ## The credit each device has at launch -/

theorem devs_sum (e : Dev nD → Dev nD) (he : ∀ d, e (e d) = d) (c : Dev nD) (n : ℕ) : (∑ d : Dev nD, if e d = c then n else 0) = n := by
  rw [Finset.sum_eq_single (e c) (fun d _ hd => if_neg fun h => hd (by rw [← h, he])) (fun h => absurd (Finset.mem_univ _) h), if_pos (he c)]

theorem family_at (e : Dev nD) (k : Fin 7) (g : GSem nD τ sig) (N : ℕ) :
    (∑ i ∈ Finset.univ.filter (fun i : Fin 16 => 0 ≤ i.val), (tallyAt (cell e k i) () N : CellTallies nD τ sig Unit)) g ()
      = ∑ i : Fin 16, if g = cell e k i then N else 0 := by
  rw [Finset.filter_true_of_mem (fun _ _ => Nat.zero_le _), Finset.sum_apply, Finsupp.finsetSum_apply]
  refine Finset.sum_congr rfl fun i _ => ?_
  rw [tallyAt_apply]
  simp only [and_true]

theorem family_cell (e : Dev nD) (k : Fin 7) (c : Dev nD) (k' : Fin 7) (j : Fin 16) (N : ℕ) :
    (∑ i : Fin 16, if cell c k' j = cell e k i then N else 0) = if e = c then (if k = k' then N else 0) else 0 := by
  by_cases h : e = c ∧ k = k'
  · rw [h.1, h.2, if_pos rfl, if_pos rfl, Finset.sum_eq_single j
      (fun i _ hi => if_neg fun e => hi (dsem_inj (SemLoc.dma.inj (congrArg Prod.snd e))).2.symm) (fun h => absurd (Finset.mem_univ _) h), if_pos rfl]
  · rw [Finset.sum_eq_zero fun i _ => if_neg fun e' => h ⟨(congrArg (fun g : GSem nD τ sig => g.1.1) e').symm, (dsem_inj (SemLoc.dma.inj (congrArg Prod.snd e'))).1.symm⟩]
    by_cases h1 : e = c
    · rw [if_pos h1, if_neg fun h2 => h ⟨h1, h2⟩]
    · rw [if_neg h1]

theorem family_bar (e : Dev nD) (k : Fin 7) (c : Dev nD) (N : ℕ) : (∑ i : Fin 16, if barCell c = cell e k i then N else 0) = 0 :=
  Finset.sum_eq_zero fun i _ => if_neg fun h => own_ne_bar _ _ _ _ h.symm

theorem O₀_at (d : Dev nD) (g : GSem nD τ sig) : O₀ d g () = (∑ i : Fin 16, if g = cell (xDev d) 3 i then N16 else 0)
    + (∑ i : Fin 16, if g = cell (yDev d) 6 i then N16 else 0) + (if g = barCell (yDev d) then 1 else 0) + (if g = barCell (xDev d) then 1 else 0) := by
  unfold O₀ owed oweX oweY
  rw [Pi.add_apply, Finsupp.add_apply, Pi.add_apply, Finsupp.add_apply, Pi.add_apply, Finsupp.add_apply, family_at, family_at, tallyAt_apply, tallyAt_apply]
  simp only [and_true]

theorem barCell_eq (c e : Dev nD) : barCell c = barCell e ↔ e = c :=
  ⟨fun h => (barEmb.injective h).symm, fun h => by rw [h]⟩

theorem owed_cell (d c : Dev nD) (k : Fin 7) (j : Fin 16) : O₀ d (cell c k j) ()
    = (if xDev d = c then (if 3 = k then N16 else 0) else 0) + (if yDev d = c then (if 6 = k then N16 else 0) else 0) := by
  rw [O₀_at, family_cell, family_cell, if_neg (own_ne_bar _ _ _ _), if_neg (own_ne_bar _ _ _ _), Nat.add_zero]
theorem owed_bar (d c : Dev nD) : O₀ d (barCell c) () = (if yDev d = c then 1 else 0) + (if xDev d = c then 1 else 0) := by
  rw [O₀_at, family_bar, family_bar, Nat.zero_add]
  simp only [barCell_eq]

theorem launch_cell (c : Dev nD) (k : Fin 7) (j : Fin 16) (hk : k = 3 ∨ k = 6) :
    tallyOn (cell c k j) (launchCredit (Pipeline.owing O₀) 0 (cell c k j)) = (tallyAt (cell c k j) () (amt k) : CellTallies nD τ sig Unit) := by
  unfold tallyAt; refine congrArg _ (Finsupp.ext fun u => ?_); cases u
  rw [Pipeline.launchCredit_owing, Finsupp.single_eq_same, Finset.sum_congr rfl fun d _ => owed_cell d c k j, Finset.sum_add_distrib,
    devs_sum xDev xDev_xDev c, devs_sum yDev yDev_yDev c]
  rcases hk with rfl | rfl
  · rw [if_pos rfl, if_neg (by decide)]; rfl
  · rw [if_neg (by decide), if_pos rfl]; exact Nat.zero_add _
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    devs_sum xDev xDev_xDev c, devs_sum yDev yDev_yDev c]

/-- The semaphores the partners pay into. -/
def paid : Bool × Fin 16 ↪ SemLoc sig :=
  ⟨fun x => .dma (dsem (if x.1 then 6 else 3) x.2), fun a b h => by
    obtain ⟨h1, h2⟩ := dsem_inj (SemLoc.dma.inj h)
    obtain ⟨a, i⟩ := a; obtain ⟨b, j⟩ := b
    refine Prod.ext ?_ h2
    cases a <;> cases b <;> first | rfl | exact absurd (show (3 : Fin 7) = 6 from h1) (by decide) | exact absurd (show (6 : Fin 7) = 3 from h1) (by decide)⟩

theorem creds (c : Dev nD) : (Pipeline.launchCred O₀ c : sProp 𝕄) ⊢ iprop(cred (tallyAt (barCell c) () 2) ∗ dues c) := by
  have hsub : (Finset.univ.map paid : Finset (SemLoc sig)) ⊆ Finset.univ.erase (SemLoc.reg barS) := fun x hx => by
    obtain ⟨y, -, rfl⟩ := Finset.mem_map.mp hx
    exact Finset.mem_erase.mpr ⟨fun h => (by cases h), Finset.mem_univ _⟩
  have hb (b : Bool) (k : Fin 7) (hk : k = 3 ∨ k = 6) (hb : (if b then 6 else 3 : Fin 7) = k) :
      (bigSep Finset.univ fun j : Fin 16 => cred (tallyOn ((c.tc : Thread nD τ), paid (b, j)) (launchCredit (Pipeline.owing O₀) 0 ((c.tc : Thread nD τ), paid (b, j)))) : sProp 𝕄)
        = bigSep Finset.univ fun j => sent c k j := bigSep_congr fun j _ => by
    have e : ((c.tc : Thread nD τ), paid (b, j)) = cell c k j := by rw [← hb]; rfl
    rw [e, launch_cell c k j hk]; rfl
  unfold Pipeline.launchCred
  rw [bigSep_univ_at _ (SemLoc.reg barS), launch_bar]
  refine sep_mono_right ((bigSep_subset hsub).trans ?_)
  unfold dues
  rw [bigSep_map, bigSep_univ_prod, BI.bigSep_univ_eq_bigSepL [false, true] (by decide) (by decide), ← hb false 3 (.inl rfl) rfl, ← hb true 6 (.inr rfl) rfl]
  exact BI.Entails.refl _

/-! ## The launch -/

/-- The launch element: the pipeline's at its staging cells, and the protocol's, with the kernel's own cells not yet open. -/
def u₀ : UU :=
  (initOf (Pipeline.cells (Pipeline.pin (pcfgs (F := F)) adm) cellOf_inj) (Pipeline.launchToks (Pipeline.pin (pcfgs (F := F)) adm) cellOf_inj),
    launchOf barCells ownCells duties)

/-- The protocol's share of it, kept with device 0 until it is dealt. -/
def seed : sProp 𝕄 := BI.own (ER (launchOf barCells ownCells duties))
def G (c : Dev nD) : sProp 𝕄 := if c = 0 then seed else iprop(emp)
theorem G_all : bigSep Finset.univ G = (seed : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: the invariants, and that every barrier is open. -/
def shared (κ : GSem nD τ sig → ℕ) : sProp 𝕄 :=
  iprop(((bigSep Finset.univ fun d : Dev nD => bigSep Finset.univ fun kj : Fin 7 × Fin 16 => cellInv ER (Rd (inp m)) (κ (cell d kj.1 kj.2)) (cell d kj.1 kj.2))
      ∗ bigSep Finset.univ fun d : Dev nD => cellInv ER (Rd (inp m)) (κ (barCell d)) (barCell d))
    ∗ bigSep Finset.univ fun d : Dev nD => reached ER (barCell d) 0)
instance shared_persistent (κ : GSem nD τ sig → ℕ) : BI.Persistent (shared m κ) := by unfold shared; infer_instance

/-- What is a device's alone. -/
def dealt (c : Dev nD) : sProp 𝕄 :=
  iprop(atPos ER (barCell c) 0 ∅ 0 ∗ (bigSep Finset.univ fun kj : Fin 7 × Fin 16 => openTok ER (cell c kj.1 kj.2))
    ∗ toks c ∗ dutyTok ER (barCell (xDev c)) 0 false ∗ dutyTok ER (barCell (yDev c)) 0 true)
def held₀ (c : Dev nD) : sProp 𝕄 :=
  iprop(StableHlo.held (c : Thread nD τ) bufs (V₀ m c) ∗ (cred (tallyAt (barCell c) () 2) ∗ dues c) ∗ owes (c : Thread nD τ) (O₀ c) ∅ ∗ ∃ r, prngReg c r)

abbrev T₀ (c : Dev nD) : sProp 𝕄 := iprop(StableHlo.held (c : Thread nD τ) bufs (V₀ m c) ∗ ride m c)
abbrev Tₙ (c : Dev nD) : sProp 𝕄 := iprop(StableHlo.held (c : Thread nD τ) bufs (V₂ m c) ∗ semVal (barCell c) 0)

theorem T₀_intro (κ : GSem nD τ sig → ℕ) (c : Dev nD) : iprop(shared m κ ∗ (dealt c ∗ held₀ m c)) ⊢ T₀ m c := by
  have hr (e : Dev nD) := at_elim (F := F) (fun d : Dev nD => reached ER (barCell d) 0) e
  unfold shared dealt held₀ T₀ ride Tk barIn Owe
  iintro ⟨⟨#HI, #HR⟩, ⟨Ha, Ho, Ht, Hx, Hy⟩, Hh, ⟨Hc, Hd⟩, HO, Hp⟩
  ihave #Hrx := (hr (xDev c)) $$ HR
  ihave #Hry := (hr (yDev c)) $$ HR
  isplitl [Hh]; · iexact Hh
  isplitr [HO]
  · isplitr [Hp]
    · isplitr; · iexists κ; iexact HI
      isplitl [Ho]; · iexact Ho
      isplitl [Ht]; · iexact Ht
      isplitl [Hd]; · iexact Hd
      isplitl [Ha]; · iexact Ha
      isplitl [Hc]; · iexact Hc
      isplitl [Hx]; · iexact Hx
      isplitl [Hy]; · iexact Hy
      isplitr; · iexact Hrx
      iexact Hry
    · iexact Hp
  · iexists ∅; iexact HO

theorem unscoped_eq : ∀ sm : SemLoc sig, sm.isScoped .tc = false → sm = .reg barS := by decide
theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(held₀ m c ∗ (semVal (barCell c) 0 ∗ G c)) : sProp 𝕄) := by
  rw [show unscopedBufs c (fun b => m ((c : Thread nD τ).loc b)) = StableHlo.held (c : Thread nD τ) bufs (V₀ m c) from bufs_held c (V₀ m c), unscoped_sems]
  unfold held₀
  iintro ⟨Hh, Hs, HO, Hcr, Hp, HG⟩
  ihave Hc := (creds (F := F) c) $$ Hcr
  isplitr [Hs HG]
  · isplitl [Hh]; · iexact Hh
    isplitl [Hc]; · iexact Hc
    isplitl [HO]; · iexact HO
    iexists (ρ c); iexact Hp
  isplitl [Hs] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c => held₀ m c) ∗ (bigSep Finset.univ fun c : Dev nD => semVal (barCell c) 0) ∗ bigSep Finset.univ G) : sProp 𝕄) := by
    refine (show _ ⊢ (bigSep Finset.univ fun c : Dev nD => iprop(held₀ m c ∗ (semVal (barCell c) 0 ∗ G c)) : sProp 𝕄) from bigSep_mono fun c _ => core_init m ρ c).trans ?_
    rw [bigSep_sep', bigSep_sep']
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hbar (Φ : GSem nD τ sig → sProp 𝕄) : bigSep barCells Φ ⊢ bigSep Finset.univ (fun c : Dev nD => Φ (barCell c)) :=
    Entails.of_eq (bigSep_map (s := Finset.univ) barEmb (Φ := Φ))
  have hown (Φ : GSem nD τ sig → sProp 𝕄) : bigSep ownCells Φ ⊢ bigSep Finset.univ (fun c : Dev nD => bigSep Finset.univ fun kj : Fin 7 × Fin 16 => Φ (cell c kj.1 kj.2)) :=
    Entails.of_eq ((bigSep_map (s := Finset.univ) ownEmb (Φ := Φ)).trans (bigSep_univ_prod _))
  have hboth (Φ : GSem nD τ sig → sProp 𝕄) : bigSep (barCells ∪ ownCells) Φ ⊢ iprop(bigSep barCells Φ ∗ bigSep ownCells Φ) :=
    Entails.of_eq (bigSep_union cells_disjoint)
  iintro ⟨H, -⟩
  ihave H := hcore $$ H
  icases H with ⟨HB, Hv, HG⟩
  ihave Hu := (Entails.of_eq (G_all (F := F))) $$ HG
  imod (Rounds.fund_launch ER (Rd (inp m)) cells_disjoint (fun g _ h => h) duties) $$ [Hv Hu] with ⟨%κ, -, Hinv, Hr, Hat, Hopen, Htok⟩
  · isplitl [Hv]
    · iapply hv $$ Hv
    · iapply (show (seed : sProp 𝕄) ⊢ BI.own (ER (launchOf barCells ownCells duties)) from .rfl) $$ Hu
  imodintro
  ihave Hinv := (hboth _) $$ Hinv
  icases Hinv with ⟨Hib, Hio⟩
  ihave #Hib := (hbar _) $$ Hib
  ihave #Hio := (hown _) $$ Hio
  ihave #Hr := (hbar _) $$ Hr
  ihave Hat := (hbar _) $$ Hat
  ihave Hopen := (hown _) $$ Hopen
  ihave Htok := (duties_dealt (F := F)) $$ Htok
  icases Htok with ⟨Ht, Hx, Hy⟩
  iapply (bigSep_with_persistent (R := shared m κ) (Φ := fun c => iprop(dealt c ∗ held₀ m c)) fun c _ => T₀_intro m κ c)
  isplitr
  · unfold shared
    isplitr
    · isplitr; · iexact Hio
      iexact Hib
    · iexact Hr
  unfold dealt
  rw [bigSep_sep', bigSep_sep', bigSep_sep', bigSep_sep', bigSep_sep']
  isplitr [HB]
  · isplitl [Hat]; · iexact Hat
    isplitl [Hopen]; · iexact Hopen
    isplitl [Ht]; · iexact Ht
    isplitl [Hx] <;> iassumption
  · iexact HB

/-! ## The run -/

theorem bufs_each (c : Dev nD) (W : Valuation τ sig (Elt F)) : (StableHlo.held (c : Thread nD τ) bufs W : sProp 𝕄)
    ⊢ iprop(((c : Thread nD τ).loc main_arg0 ↦{fullShare} W (Proc.devRef .tc main_arg0)) ∗ ((c : Thread nD τ).loc main_arg1 ↦{fullShare} W (Proc.devRef .tc main_arg1))
      ∗ ((c : Thread nD τ).loc main_v1 ↦{fullShare} W (Proc.devRef .tc main_v1)) ∗ ((c : Thread nD τ).loc main_v2 ↦{fullShare} W (Proc.devRef .tc main_v2))
      ∗ ((c : Thread nD τ).loc main_v3 ↦{fullShare} W (Proc.devRef .tc main_v3))) := by
  unfold StableHlo.held
  rw [BI.bigSep_eq_bigSepL_of_eq [Proc.devRef .tc main_arg0, Proc.devRef .tc main_arg1, Proc.devRef .tc main_v1, Proc.devRef .tc main_v2, Proc.devRef .tc main_v3]
    (by decide) (by decide)]
  exact .rfl

theorem V₂_arg0 (c : Dev nD) : V₂ m c (Proc.devRef .tc main_arg0) = m ((c : Thread nD τ).loc main_arg0) :=
  (V₂_of_ne m c _ (by decide)).trans (V_main_arg0 m c)
theorem V₂_arg1 (c : Dev nD) : V₂ m c (Proc.devRef .tc main_arg1) = m ((c : Thread nD τ).loc main_arg1) :=
  (V₂_of_ne m c _ (by decide)).trans (V_main_arg1 m c)

set_option backward.isDefEq.respectTransparency.types false in
/-- Every run of the program ends; the arguments are then as they were, the result is `outF`, and every semaphore is at zero. -/
theorem run_main : θ_run defs (onTc (τ := τ) (main (F := F))) ⟨m, fun _ => 0, ρ⟩
    (fun r => (∀ c : Dev nD, r.2.mem ((c.tc : Thread nD τ).loc main_v3) = outF c (inp m)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      rw [G_all]
      unfold u₀ seed
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => reg_pre m c, fun c => (reg_post m c).trans ?_⟩
      show iprop(StableHlo.held (c : Thread nD τ) bufs (V₂ m c) ∗ (semVal (barCell c) 0 ∗ Owe c 0))
        ⊢ iprop(Tₙ m c ∗ ∃ W, owes (c : Thread nD τ) (0 : CellTallies nD τ sig Unit) W)
      unfold Owe
      iintro ⟨Hh, Hb, HO⟩
      isplitr [HO]
      · isplitl [Hh] <;> iassumption
      · iexact HO)
    (hinit := init m ρ)
    (QY := fun c s => (s.mem ((c.tc : Thread nD τ).loc main_v3) = V₂ m c (Proc.devRef .tc main_v3)
        ∧ s.mem ((c.tc : Thread nD τ).loc main_arg0) = V₂ m c (Proc.devRef .tc main_arg0)
        ∧ s.mem ((c.tc : Thread nD τ).loc main_arg1) = V₂ m c (Proc.devRef .tc main_arg1)) ∧ s.sem (barCell c) = 0)
    (hfin := fun c s' => by
      dsimp only [Tₙ]
      iintro ⟨⟨Hh, Hb⟩, HSI⟩
      ihave Hh := (bufs_each c (V₂ m c)) $$ Hh
      icases Hh with ⟨H0, H1, -, -, H3⟩
      icombine HSI H0 gives %h0
      icombine HSI H1 gives %h1
      icombine HSI H3 gives %h3
      icombine HSI Hb gives %hb
      imodintro
      isplitr
      · ipureintro
        exact ⟨⟨Buf.eq_of_forall_mem_univ h3, Buf.eq_of_forall_mem_univ h0, Buf.eq_of_forall_mem_univ h1⟩, by simpa using hb⟩
      iexact HSI)
    (hQ := fun s h hs => ⟨fun c => by
        obtain ⟨⟨h3, h0, h1⟩, -⟩ := h c
        rw [V₂_out] at h3; rw [V₂_arg0] at h0; rw [V₂_arg1] at h1
        exact ⟨h3, h0, h1⟩,
      sem_eq_zero hs fun c sm hsm => by
        obtain rfl := unscoped_eq sm hsm
        exact (h c).2⟩)

end Cert.KernelIdealProof

end
-- ==== Proof.Value.lean ====
/- The value: at the extended reals the result of the kernel on a device is the block of rows of the reference's result that
   the device's place on the mesh's first axis names. Both read one function of a row, `rowOut`. -/
module

public import proofs.«01_k».proof.Proof.IdealRegion
public import Idealize.ShloMosaic.Lib.IdealHost
public import Idealize.ShloMosaic.Lib.ValueLayout
public import Idealize.ShloMosaic.Lib.ValueLayoutCasts
public import Idealize.ShloMosaic.Lib.Layout
public import Idealize.ShloMosaic.Lib.StableHlo.Run

@[expose] public section

noncomputable section

open scoped BigOperators

namespace Cert.KernelIdealProof

open Cert.KernelIdeal
open Cert.KernelIdeal.Gen

open Idealize.ShloMosaic Idealize.ShloMosaic.TcCoe Idealize.ShloMosaic.ValueIdx

/-! ## A row normalised -/

/-- The square mean of a row, with the small constant added. -/
def level (y : Fin 4096 → EReal) : EReal :=
  Ideal.div (∑ k, y k * y k) (Ideal.ofBits .f32 0x45800000#32) + Ideal.ofBits .f32 0x358637BD#32

/-- The row over the root of its level, times the weights. -/
def rowOut (y g : Fin 4096 → EReal) (l : Fin 4096) : EReal := y l * Ideal.rsqrt (level y) * g l

theorem const_count : Ideal.ofBits .f32 0x45800000#32 = ((4096 : ℝ) : EReal) := by
  simp [Ideal.ofBits, Ideal.ieee, -EReal.coe_mul]; norm_num

theorem const_eps : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

theorem sq_nonneg (x : EReal) : 0 ≤ x * x := by
  rcases le_total 0 x with h | h
  · exact mul_nonneg h h
  · rw [← neg_mul_neg x x]
    exact mul_nonneg (EReal.neg_nonneg.mpr h) (EReal.neg_nonneg.mpr h)

/-- The level of a row is positive: squares are not negative, whatever the row holds. -/
theorem level_pos (y : Fin 4096 → EReal) : 0 < level y := by
  obtain ⟨e, he, hb⟩ := const_eps
  have h0 : (0 : EReal) ≤ ∑ k, y k * y k := Finset.sum_nonneg fun k _ => sq_nonneg (y k)
  have h1 : 0 ≤ Ideal.div (∑ k, y k * y k) (Ideal.ofBits .f32 0x45800000#32) := by
    rw [const_count]
    unfold Ideal.div
    rw [if_neg (by norm_num)]
    exact mul_nonneg h0 (EReal.inv_nonneg_of_nonneg (by exact_mod_cast (by norm_num : (0 : ℝ) ≤ 4096)))
  unfold level
  rw [hb]
  exact lt_of_lt_of_le (EReal.coe_pos.mpr he) (le_add_of_nonneg_left h1)

/-- Over a positive number, dividing by the root is multiplying by the reciprocal root. -/
theorem div_sqrt (x v : EReal) (hv : 0 < v) : Ideal.div x (Ideal.sqrt v) = x * Ideal.rsqrt v := by
  induction v with
  | bot => exact absurd hv (by simp)
  | top =>
    show Ideal.div x ⊤ = x * 0
    unfold Ideal.div
    rw [if_neg (by simp), EReal.inv_top]
  | coe r =>
    have hr : 0 < r := EReal.coe_pos.mp hv
    have hs : ((Real.sqrt r : ℝ) : EReal) ≠ 0 := by
      rw [Ne, EReal.coe_eq_zero]; exact (Real.sqrt_pos.mpr hr).ne'
    show Ideal.div x (if r < 0 then ⊥ else (Real.sqrt r : EReal)) = x * (if r < 0 then ⊥ else if r = 0 then ⊤ else (((Real.sqrt r)⁻¹ : ℝ) : EReal))
    rw [if_neg hr.not_gt, if_neg hr.not_gt, if_neg hr.ne']
    unfold Ideal.div
    rw [if_neg hs, EReal.coe_inv]

/-! ## The chunks -/

theorem payX_apply (v : Vec Ideal S1x128x4096 .f32) (i : Fin 128) (l : Fin 4096) :
    payX v (ix3 (0 : Fin 1) i l) = v (ix3 (0 : Fin 1) i l) := by
  show shapeCast S1x128x4096 (truncf .bf16 (shapeCast S128x4096 v shapeCasts_S1x128x4096_S128x4096) bitsLt_bf16_f32 : FVec Ideal S128x4096 .bf16) shapeCasts_S128x4096_S1x128x4096 (ix3 (0 : Fin 1) i l) = _
  rw [shapeCast_ab_1ab_apply, truncf_apply, shapeCast_1ab_ab_apply]

theorem bcast_col (v : FVec Ideal S128x1 .f32) (i : Fin 128) (l : Fin 4096) :
    broadcastTo S128x4096 v broadcasts_S128x1_S128x4096 (ix2 i l) = v (ix2 i (0 : Fin 1)) :=
  broadcastTo_apply v _ (ix2 i l) (ix2 i (0 : Fin 1)) fun ax => by
    match ax with
    | ⟨0, _⟩ => rfl
    | ⟨1, _⟩ => rfl

theorem payC_apply (a : Vec Ideal S1x128x4096 .f32) (b : Vec Ideal S1x128x4096 .bf16) (g : Vec Ideal S1x4096 .f32) (i : Fin 128) (l : Fin 4096) :
    payC a b g (ix3 (0 : Fin 1) i l) = rowOut (fun k => a (ix3 (0 : Fin 1) i k) + b (ix3 (0 : Fin 1) i k)) (fun k => g (ix2 (0 : Fin 1) k)) l := by
  have hy (k : Fin 4096) : (addf (shapeCast S128x4096 a shapeCasts_S1x128x4096_S128x4096)
      (extf .f32 (shapeCast S128x4096 b shapeCasts_S1x128x4096_S128x4096) bitsLt_bf16_f32) : FVec Ideal S128x4096 .f32) (ix2 i k)
      = a (ix3 (0 : Fin 1) i k) + b (ix3 (0 : Fin 1) i k) := by
    rw [addf_apply, extf_apply, shapeCast_1ab_ab_apply, shapeCast_1ab_ab_apply]
  unfold payC k0_pay5
  dsimp only
  rw [shapeCast_ab_1ab_apply, truncf_apply, mulf_apply, mulf_apply, hy, bcast_col, broadcastTo_1b_ab_apply, shapeCast_self]
  unfold rowOut level
  refine congrArg (fun z => (a (ix3 (0 : Fin 1) i l) + b (ix3 (0 : Fin 1) i l)) * Ideal.rsqrt z * g (ix2 (0 : Fin 1) l)) ?_
  rw [addf_apply, divf_apply, shapeCast_a_a1_apply]
  refine congrArg₂ (fun z w => Ideal.div z w + Ideal.ofBits .f32 0x358637BD#32) ?_ rfl
  refine (Ideal.multiReduction_add_single _ _ _ _ _ _).trans ?_
  refine Finset.sum_congr rfl fun k _ => ?_
  have hl : reduces_S128x4096_S128.lift (ix1 i) k = ix2 i k := by
    funext ax
    match ax with
    | ⟨0, _⟩ => rfl
    | ⟨1, _⟩ => rfl
  rw [mulf_apply, hl]
  exact congrArg₂ (· * ·) (hy k) (hy k)

theorem un_apply {α : Type} (Y : S128x4096.Idx → α) (i : Fin 128) (l : Fin 4096) : (un sqH Y : S1x128x4096.Idx → α) (ix3 (0 : Fin 1) i l) = Y (ix2 i l) :=
  congrArg Y ((Equiv.symm_apply_eq _).mpr (reshapeEquiv_ix2_1ab sqH i l).symm)
theorem sq_apply {α : Type} (Z : S1x128x4096.Idx → α) (i : Fin 128) (l : Fin 4096) : (sq sqH Z : S128x4096.Idx → α) (ix2 i l) = Z (ix3 (0 : Fin 1) i l) :=
  congrArg Z (reshapeEquiv_ix2_1ab sqH i l)

/-- The devices' places: the first axis of the mesh, and the partners'. -/
theorem xDev_div : ∀ d : Dev nD, (xDev d).val / 8 = 1 - d.val / 8 ∧ ((xDev d).val / 4) % 2 = (d.val / 4) % 2 := by decide
theorem yDev_div : ∀ d : Dev nD, (yDev d).val / 8 = d.val / 8 ∧ ((yDev d).val / 4) % 2 = 1 - (d.val / 4) % 2 := by decide

/-- A place on the first axis. -/
def half (d : Dev nD) : Fin 2 := ⟨d.val / 8, by have : d.val < 16 := d.isLt; omega⟩

/-- The row of the whole array that row `i` of chunk `j` of device `d` is. -/
def rowAt (d : Dev nD) (j : Fin 16) (i : Fin 128) : Fin 8192 :=
  ⟨4096 * (d.val / 8) + 2048 * ((d.val / 4) % 2) + 128 * j.val + i.val, by
    have : d.val < 16 := d.isLt
    have := j.isLt; have := i.isLt; omega⟩

variable (X : Inp Ideal)

theorem rect_at (d : Dev nD) (t : Fin 16 ⊕ Fin 16) (i : Fin 128) (l : Fin 4096) (r : Fin 8192) (hr : r.val = offP d t 0 + i.val) :
    (RP d t).emb (ix2 i l) = ix2 r l := by
  have h1 : offP d t 1 = 0 := by
    rcases t with j | j
    · exact congrFun (k0_off1_eq d j) 1
    · exact congrFun (k0_off2_eq d j) 1
  funext ax
  refine Fin.ext ?_
  match ax with
  | ⟨0, _⟩ => show offP d t 0 + 1 * i.val = r.val; omega
  | ⟨1, _⟩ => show offP d t 1 + 1 * l.val = l.val; omega

theorem mineX_apply (d : Dev nD) (j : Fin 16) (i : Fin 128) (l : Fin 4096) : mineX X d j (ix2 i l) = X.P d (ix2 (rowAt d j i) l) :=
  (congrFun (View.read_whole main_v1 (X.P d)) ((RP d (.inr j)).emb (ix2 i l))).trans
    (congrArg (X.P d) (rect_at d (.inr j) i l (rowAt d j i) (by rw [offP_r]; rfl)))

theorem thX_apply (d : Dev nD) (j : Fin 16) (i : Fin 128) (l : Fin 4096) : thX X d j (ix2 i l) = X.P d (ix2 (rowAt (xDev d) j i) l) :=
  (congrFun (View.read_whole main_v1 (X.P d)) ((RP d (.inl j)).emb (ix2 i l))).trans
    (congrArg (X.P d) (rect_at d (.inl j) i l (rowAt (xDev d) j i) (by
      obtain ⟨h1, h2⟩ := xDev_div d
      have hd : d.val < 16 := d.isLt
      have hx : (rowAt (xDev d) j i).val = 4096 * ((xDev d).val / 8) + 2048 * (((xDev d).val / 4) % 2) + 128 * j.val + i.val := rfl
      rw [offP_l, hx, h1, h2]; omega)))

/-- What arrives from the partner is the partner's part of the same rows. -/
theorem rxX_apply (d : Dev nD) (j : Fin 16) (i : Fin 128) (l : Fin 4096) : rxX X d j (ix2 i l) = X.P (xDev d) (ix2 (rowAt d j i) l) := by
  unfold rxX sxX
  rw [sq_apply, payX_apply, un_apply, thX_apply, xDev_xDev]

theorem resX_apply (d : Dev nD) (j : Fin 16) (i : Fin 128) (l : Fin 4096) :
    resX X d j (ix2 i l) = rowOut (fun k => X.P d (ix2 (rowAt d j i) k) + X.P (xDev d) (ix2 (rowAt d j i) k)) (fun k => X.G d (ix2 (0 : Fin 1) k)) l := by
  unfold resX
  rw [sq_apply, payC_apply]
  simp only [un_apply, mineX_apply, rxX_apply]

/-! ## The whole result -/

/-- The whole of `partial` and the weights. -/
abbrev Whole : Type := (⟨3, ![2, 8192, 4096]⟩ : Shape).Idx → EReal
abbrev Weights : Type := (⟨1, ![4096]⟩ : Shape).Idx → EReal

/-- The result at a row and a column. -/
def total (A : Whole) (W : Weights) (r : Fin 8192) (l : Fin 4096) : EReal :=
  rowOut (fun k => A (ix3 (0 : Fin 2) r k) + A (ix3 (1 : Fin 2) r k)) (fun k => W (ix1 k)) l

variable (A : Whole) (W : Weights)
  (hP : ∀ (d : Dev nD) (r : Fin 8192) (k : Fin 4096), X.P d (ix2 r k) = A (ix3 (half d) r k))
  (hG : ∀ (d : Dev nD) (k : Fin 4096), X.G d (ix2 (0 : Fin 1) k) = W (ix1 k))

include hP in
/-- A device's part and its partner's, in either order, are both parts. -/
theorem parts (d : Dev nD) (r : Fin 8192) (k : Fin 4096) :
    X.P d (ix2 r k) + X.P (xDev d) (ix2 r k) = A (ix3 (0 : Fin 2) r k) + A (ix3 (1 : Fin 2) r k) := by
  rw [hP, hP]
  have hd : d.val < 16 := d.isLt
  obtain ⟨h1, -⟩ := xDev_div d
  rcases (by omega : d.val / 8 = 0 ∨ d.val / 8 = 1) with h | h
  · have e : half d = 0 := Fin.ext h
    have e' : half (xDev d) = 1 := Fin.ext (by show (xDev d).val / 8 = 1; omega)
    rw [e, e']
  · have e : half d = 1 := Fin.ext h
    have e' : half (xDev d) = 0 := Fin.ext (by show (xDev d).val / 8 = 0; omega)
    rw [e, e', add_comm]

include hP hG in
theorem resX_total (d : Dev nD) (j : Fin 16) (i : Fin 128) (l : Fin 4096) : resX X d j (ix2 i l) = total A W (rowAt d j i) l := by
  rw [resX_apply]
  unfold total
  simp only [parts X A hP, hG]

include hP hG in
/-- The result of a device at a row is the whole result at that row of its half. -/
theorem outF_total (d : Dev nD) (r : Fin 4096) (l : Fin 4096) (r' : Fin 8192) (hr : r'.val = 4096 * (d.val / 8) + r.val) :
    outF d X (ix2 r l) = total A W r' l := by
  have hm : ix2 r l ∈ Finset.univ.map (RO d (chunkO d r.val)).emb := by
    rw [Rect.map_emb_univ]; exact chunkO_mem d (ix2 r l)
  obtain ⟨y, -, hy⟩ := Finset.mem_map.mp hm
  refine (congrArg (outF d X) hy.symm).trans ((outF_chunk d X _ y).trans ?_)
  have h0 : offO d (chunkO d r.val) 0 + (y 0).val = r.val := by
    have := congrArg (fun z : S4096x4096.Idx => (z 0).val) hy
    have e : offO d (chunkO d r.val) 0 + 1 * (y 0).val = r.val := this
    omega
  have h1 : (y 1).val = l.val := by
    have := congrArg (fun z : S4096x4096.Idx => (z 1).val) hy
    have e : offO d (chunkO d r.val) 1 + 1 * (y 1).val = l.val := this
    rw [offO_one] at e
    omega
  have hd : d.val < 16 := d.isLt
  obtain ⟨hy8, hy4⟩ := yDev_div d
  obtain ⟨i, hi⟩ : ∃ i : Fin 128, i.val = (y 0).val := ⟨y 0, rfl⟩
  have hyi : (y : S128x4096.Idx) = ix2 i l := by
    funext ax
    match ax with
    | ⟨0, _⟩ => exact Fin.ext hi.symm
    | ⟨1, _⟩ => exact Fin.ext h1
  refine (congrArg (chunkOut d X (chunkO d r.val)) hyi).trans ?_
  rw [← hi] at h0
  clear hyi hi h1 hy hm
  generalize chunkO d r.val = t at h0
  rcases t with j | j
  · rw [offO_l] at h0
    show resX X d j (ix2 i l) = _
    rw [resX_total X A W hP hG]
    refine congrArg (fun z => total A W z l) (Fin.ext ?_)
    show 4096 * (d.val / 8) + 2048 * ((d.val / 4) % 2) + 128 * j.val + i.val = r'.val
    omega
  · rw [offO_r] at h0
    show resX X (yDev d) j (ix2 i l) = _
    rw [resX_total X A W hP hG]
    refine congrArg (fun z => total A W z l) (Fin.ext ?_)
    show 4096 * ((yDev d).val / 8) + 2048 * (((yDev d).val / 4) % 2) + 128 * j.val + i.val = r'.val
    rw [hy8, hy4]
    omega

/-! ## What the kernel reads, from the arguments -/

variable (m : (ℓ : Loc nD τ sig) → Buf (Elt Ideal) ℓ)

theorem rows_of (d : Dev nD) : V₁ m d (Proc.devRef .tc main_v1)
    = shapeCast S8192x4096 (m ((d.tc : Thread nD τ).loc main_arg0)) shapeCasts_S1x8192x4096_S8192x4096 := by
  after_results
  rfl

theorem weights_of (d : Dev nD) : V₁ m d (Proc.devRef .tc main_v2)
    = shapeCast S1x4096 (m ((d.tc : Thread nD τ).loc main_arg1)) shapeCasts_S4096_S1x4096 := by
  after_results
  rfl

theorem inp_G (d : Dev nD) (k : Fin 4096) : (inp m).G d (ix2 (0 : Fin 1) k) = V₁ m d (Proc.devRef .tc main_v2) (ix2 (0 : Fin 1) k) := by
  show V₁ m d (Proc.devRef .tc main_v2) _ = _
  refine congrArg (V₁ m d (Proc.devRef .tc main_v2)) (funext fun ax => Fin.ext ?_)
  have h := Pipeline.Window.rect_emb_val_of_index_zero (cfg0.win 0) t0_0
  match ax with
  | ⟨0, _⟩ => exact h 0 rfl (ix2 (0 : Fin 1) k)
  | ⟨1, _⟩ => exact h 1 rfl (ix2 (0 : Fin 1) k)

/-- The blocks of the claim, at an index. -/
theorem meshLin_half (d : Dev nD) : Layout.meshLin [2, 2, 4] d.val [0] = d.val / 8 := by
  revert d; decide

/-- The meshes' blocks, and how they tile the arrays. -/
theorem live_in : ∀ b : Fin 3, ∀ i ∈ (![[0], [], []] : Fin 3 → List ℕ) b, 0 < ([2, 2, 4] : List ℕ).getD i 0 := by decide
theorem live_out : ∀ b : Fin 2, ∀ i ∈ (![[0], []] : Fin 2 → List ℕ) b, 0 < ([2, 2, 4] : List ℕ).getD i 0 := by decide
theorem tiles_in : Layout.TilesN ⟨3, ![1, 8192, 4096]⟩ ⟨3, ![2, 8192, 4096]⟩ fun b => Layout.cutSize [2, 2, 4] ((![[0], [], []] : Fin 3 → List ℕ) b) := by decide
theorem tiles_out : Layout.TilesN ⟨2, ![4096, 4096]⟩ ⟨2, ![8192, 4096]⟩ fun b => Layout.cutSize [2, 2, 4] ((![[0], []] : Fin 2 → List ℕ) b) := by decide

variable
  (ha : ∀ d : Dev nD, m ((d.tc : Thread nD τ).loc main_arg0)
    = Layout.blockN ⟨3, ![1, 8192, 4096]⟩ ⟨3, ![2, 8192, 4096]⟩ (Layout.meshBlock [2, 2, 4] ![[0], [], []] d live_in) A tiles_in)
  (hw : ∀ d : Dev nD, m ((d.tc : Thread nD τ).loc main_arg1) = W)

include ha in
theorem inp_P (d : Dev nD) (r : Fin 8192) (k : Fin 4096) : (inp m).P d (ix2 r k) = A (ix3 (half d) r k) := by
  refine (congrFun (rows_of m d) (ix2 r k)).trans ?_
  rw [ha d]
  refine (shapeCast_1ab_ab_apply _ _ r k).trans ?_
  rw [Layout.blockN_apply]
  refine congrArg A (funext fun ax => Fin.ext ?_)
  rw [Layout.TilesN.idx_val]
  match ax with
  | ⟨0, _⟩ =>
    show Layout.meshLin [2, 2, 4] d.val [0] * 1 + 0 = d.val / 8
    rw [meshLin_half]; omega
  | ⟨1, _⟩ => show 0 * 8192 + r.val = r.val; omega
  | ⟨2, _⟩ => show 0 * 4096 + k.val = k.val; omega

include hw in
theorem inp_W (d : Dev nD) (k : Fin 4096) : (inp m).G d (ix2 (0 : Fin 1) k) = W (ix1 k) := by
  refine (inp_G m d k).trans ((congrFun (weights_of m d) (ix2 (0 : Fin 1) k)).trans ?_)
  rw [hw d]
  exact shapeCast_a_1a_apply _ _ (0 : Fin 1) k

include ha hw in
/-- The result of a device is its block of any array that holds the whole result. -/
theorem value (B : (⟨2, ![8192, 4096]⟩ : Shape).Idx → EReal) (hB : ∀ (r : Fin 8192) (l : Fin 4096), B (ix2 r l) = total A W r l) (d : Dev nD) :
    outF d (inp m) = Layout.blockN ⟨2, ![4096, 4096]⟩ ⟨2, ![8192, 4096]⟩ (Layout.meshBlock [2, 2, 4] ![[0], []] d live_out) B tiles_out := by
  funext i
  obtain ⟨r, l, rfl⟩ : ∃ (r : Fin 4096) (l : Fin 4096), i = ix2 r l := ⟨i 0, i 1, eq_ix2 i⟩
  have hd : d.val < 16 := d.isLt
  have hr : 4096 * (d.val / 8) + r.val < 8192 := by have := r.isLt; omega
  rw [outF_total (inp m) A W (inp_P A m ha) (inp_W W m hw) d r l ⟨_, hr⟩ rfl, ← hB, Layout.blockN_apply]
  refine congrArg B (funext fun ax => Fin.ext ?_)
  rw [Layout.TilesN.idx_val]
  match ax with
  | ⟨0, _⟩ =>
    show 4096 * (d.val / 8) + r.val = Layout.meshLin [2, 2, 4] d.val [0] * 4096 + r.val
    rw [meshLin_half]; omega
  | ⟨1, _⟩ => show l.val = 0 * 4096 + l.val; omega

end Cert.KernelIdealProof

end
-- ==== Proof.Reference.lean ====
/- The reference: its result at a row and a column is the function of the row that the kernel's result is. -/
module

public import proofs.«01_k».proof.Proof.Value
public import proofs.«01_k».proof.Proof.Gen.ReferenceIdeal.Run

@[expose] public section

noncomputable section

open scoped BigOperators

namespace Cert.ReferenceIdealProof

open Cert.ReferenceIdeal Cert.ReferenceIdeal.Gen
open Cert.KernelIdealProof (total rowOut level level_pos div_sqrt Whole Weights)
open Idealize.ShloMosaic Idealize.ShloMosaic.TcCoe Idealize.ShloMosaic.ValueIdx

variable (A : Whole) (W : Weights)

/-- The sum of the parts. -/
def summed : FVec Ideal S8192x4096 .f32 :=
  Host.reduceAdd (A : FVec Ideal S2x8192x4096 .f32) (constant S_ .f32 0x00000000#32) reducesTo_S2x8192x4096_S8192x4096_d0 h_S_
/-- The level of each row. -/
def levels : FVec Ideal S8192x1 .f32 :=
  addf (Host.divf (broadcastInDim S8192x1 ![0] bcast_S8192_S8192x1_0 (Host.reduceAdd (mulf (summed A) (summed A)) (constant S_ .f32 0x00000000#32) reducesTo_S8192x4096_S8192_d1 h_S_))
    (broadcastInDim S8192x1 ![] bcast_S_S8192x1 (constant S_ .f32 0x45800000#32))) (broadcastInDim S8192x1 ![] bcast_S_S8192x1 (constant S_ .f32 0x358637BD#32))
/-- The result. -/
def result : FVec Ideal S8192x4096 .bf16 :=
  truncf .bf16 (mulf (Host.divf (summed A) (broadcastInDim S8192x4096 ![0, 1] bcast_S8192x1_S8192x4096_0_1 (Host.sqrt (levels A))))
    (broadcastInDim S8192x4096 ![0, 1] bcast_S1x4096_S8192x4096_0_1 (broadcastInDim S1x4096 ![1] bcast_S4096_S1x4096_1 (W : FVec Ideal S4096 .f32)))) bitsLt_bf16_f32

theorem reduces_parts : S2x8192x4096.Reduces [0] S8192x4096 := by decide
theorem reduces_row : S8192x4096.Reduces [1] S8192 := by decide

theorem summed_apply (r : Fin 8192) (k : Fin 4096) : summed A (ix2 r k) = A (ix3 (0 : Fin 2) r k) + A (ix3 (1 : Fin 2) r k) := by
  unfold summed
  rw [hostReduceAdd_apply]
  refine (Ideal.hostReduceAdd_single _ reduces_parts _ _ _).trans ?_
  rw [constant_apply, Ideal.ofBits_zero_f32, zero_add]
  refine (Fin.sum_univ_two _).trans ?_
  refine congrArg₂ (fun x y => A x + A y) ?_ ?_ <;>
  · funext ax
    match ax with
    | ⟨0, _⟩ => rfl
    | ⟨1, _⟩ => rfl
    | ⟨2, _⟩ => rfl

theorem levels_apply (r : Fin 8192) : levels A (ix2 r (0 : Fin 1)) = level (fun k => A (ix3 (0 : Fin 2) r k) + A (ix3 (1 : Fin 2) r k)) := by
  unfold levels level
  rw [addf_apply, hostDivf_apply]
  refine congrArg₂ (fun z w => Ideal.div z w + Ideal.ofBits .f32 0x358637BD#32) ?_ rfl
  refine (broadcastInDim_apply _ _ _ _ (ix1 r) fun ax => ?_).trans ?_
  · match ax with
    | ⟨0, _⟩ => rfl
  rw [hostReduceAdd_apply]
  refine (Ideal.hostReduceAdd_single _ reduces_row _ _ _).trans ?_
  rw [constant_apply, Ideal.ofBits_zero_f32, zero_add]
  refine Finset.sum_congr rfl fun k _ => ?_
  have hl : reduces_row.lift (ix1 r) k = ix2 r k := by
    funext ax
    match ax with
    | ⟨0, _⟩ => rfl
    | ⟨1, _⟩ => rfl
  rw [mulf_apply, hl]
  exact congrArg₂ (· * ·) (summed_apply A r k) (summed_apply A r k)

theorem result_apply (r : Fin 8192) (l : Fin 4096) : result A W (ix2 r l) = total A W r l := by
  unfold result total rowOut
  rw [truncf_apply, mulf_apply, hostDivf_apply, summed_apply]
  refine congrArg₂ (· * ·) ?_ ?_
  · refine (congrArg (Ideal.div _) ((broadcastInDim_apply _ _ _ _ (ix2 r (0 : Fin 1)) fun ax => ?_).trans
      (congrArg Ideal.sqrt (levels_apply A r)))).trans (div_sqrt _ _ (level_pos _))
    match ax with
    | ⟨0, _⟩ => rfl
    | ⟨1, _⟩ => rfl
  · refine (broadcastInDim_apply _ _ _ _ (ix2 (0 : Fin 1) l) fun ax => ?_).trans
      (broadcastInDim_apply _ _ _ _ (ix1 l) fun ax => ?_)
    · match ax with
      | ⟨0, _⟩ => rfl
      | ⟨1, _⟩ => rfl
    · match ax with
      | ⟨0, _⟩ => rfl

end Cert.ReferenceIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.IdealLaunch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel's run keeps its arguments and ends with every counter at zero. -/
theorem frame_kernel : Cert.quiescent_Kernel := fun m ρ _ =>
  (θ_run Cert.Kernel.defs _ _).mono (fun _ h => ⟨fun c => (h.1 c).2, h.2⟩) (Cert.KernelProof.run_main (F := Bits) m ρ)

/-- So does the run at the extended reals. -/
theorem frame_ideal : Cert.quiescent_KernelIdeal := fun m ρ _ =>
  (θ_run Cert.KernelIdeal.defs _ _).mono (fun _ h => ⟨fun c => (h.1 c).2, h.2⟩) (Cert.KernelIdealProof.run_main (F := Ideal) m ρ)

/-- And the reference's, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals every device ends with its block of the reference's result. -/
theorem value : Cert.algebraic_KernelIdeal_ReferenceIdeal := by
  intro m ρ m' ρ' _ hag
  refine ⟨Cert.ReferenceIdealProof.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨(h.1 c).1.trans
        (Cert.KernelIdealProof.value _ _ m (fun d => (hag d).1) (fun d => (hag d).2) _ (Cert.ReferenceIdealProof.result_apply _ _) c), (h.1 c).2⟩)
      (Cert.KernelIdealProof.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
